-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluReferenceIdeal (m : (ℓ : Loc Cert.SiluReferenceIdeal.nD Cert.SiluReferenceIdeal.τ Cert.SiluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
      ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1))
      ∧ r.2.sem = fun _ => 0)

def preserves_Kernel_KernelIdeal : Prop :=
  True

def algebraic_KernelIdeal_SiluReferenceIdeal [hKernelIdeal : Cert.KernelIdeal.Facts] [hSiluReferenceIdeal : Cert.SiluReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.SiluReferenceIdeal.nD).tc : Thread Cert.SiluReferenceIdeal.nD Cert.SiluReferenceIdeal.τ).loc Cert.SiluReferenceIdeal.main_arg0))
      ∧ m ((c.tc : Thread Cert.KernelIdeal.nD Cert.KernelIdeal.τ).loc Cert.KernelIdeal.main_arg1) = m' (((0 : Dev Cert.SiluReferenceIdeal.nD).tc : Thread Cert.SiluReferenceIdeal.nD Cert.SiluReferenceIdeal.τ).loc Cert.SiluReferenceIdeal.main_arg1)) →
    ∃ (v0 : Buf (Elt Ideal) (((0 : Dev Cert.SiluReferenceIdeal.nD).tc : Thread Cert.SiluReferenceIdeal.nD Cert.SiluReferenceIdeal.τ).loc Cert.SiluReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluReferenceIdeal.defs (F := Ideal)) (onTc (τ := Cert.SiluReferenceIdeal.τ) (Cert.SiluReferenceIdeal.main (F := Ideal))) ⟨m', fun _ => 0, g'⟩ (fun r =>
          r.2.mem (((0 : Dev Cert.SiluReferenceIdeal.nD).tc : Thread Cert.SiluReferenceIdeal.nD Cert.SiluReferenceIdeal.τ).loc Cert.SiluReferenceIdeal.main_v5) = v0
          ∧ r.2.mem (((0 : Dev Cert.SiluReferenceIdeal.nD).tc : Thread Cert.SiluReferenceIdeal.nD Cert.SiluReferenceIdeal.τ).loc Cert.SiluReferenceIdeal.main_arg0) = m' (((0 : Dev Cert.SiluReferenceIdeal.nD).tc : Thread Cert.SiluReferenceIdeal.nD Cert.SiluReferenceIdeal.τ).loc Cert.SiluReferenceIdeal.main_arg0)
          ∧ r.2.mem (((0 : Dev Cert.SiluReferenceIdeal.nD).tc : Thread Cert.SiluReferenceIdeal.nD Cert.SiluReferenceIdeal.τ).loc Cert.SiluReferenceIdeal.main_arg1) = m' (((0 : Dev Cert.SiluReferenceIdeal.nD).tc : Thread Cert.SiluReferenceIdeal.nD Cert.SiluReferenceIdeal.τ).loc Cert.SiluReferenceIdeal.main_arg1))

def algebraic_KernelIdeal_ReferenceIdeal_on_clip_inactive [hKernelIdeal : Cert.KernelIdeal.Facts] [hReferenceIdeal : Cert.ReferenceIdeal.Facts] [hOn_clip_inactive : Cert.On_clip_inactive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 4096]⟩ : Shape).Idx, (Layout.block ⟨2, ![512, 4096]⟩ ⟨2, ![8192, 4096]⟩ 0 16 c ((Cert.On_clip_inactive.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 4096]⟩ : Shape).Idx → _) i = 1#1 → r.2.mem ((c.tc : Thread Cert.KernelIdeal.nD Cert.KernelIdeal.τ).loc Cert.KernelIdeal.main_v7) i = (Layout.block ⟨2, ![512, 4096]⟩ ⟨2, ![8192, 4096]⟩ 0 16 c v0 : (⟨2, ![512, 4096]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![8192, 4096]⟩ : Shape).Idx, (Cert.On_clip_inactive.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluReferenceIdeal : Cert.SiluReferenceIdeal.Facts) (hOn_clip_inactive : Cert.On_clip_inactive.Facts),
    quiescent_Kernel (hKernel := hKernel)
    ∧ quiescent_KernelIdeal (hKernelIdeal := hKernelIdeal)
    ∧ quiescent_ReferenceIdeal (hReferenceIdeal := hReferenceIdeal)
    ∧ quiescent_SiluReferenceIdeal (hSiluReferenceIdeal := hSiluReferenceIdeal)
    ∧ preserves_Kernel_KernelIdeal
    ∧ algebraic_KernelIdeal_SiluReferenceIdeal (hKernelIdeal := hKernelIdeal) (hSiluReferenceIdeal := hSiluReferenceIdeal)
    ∧ algebraic_KernelIdeal_ReferenceIdeal_on_clip_inactive (hKernelIdeal := hKernelIdeal) (hReferenceIdeal := hReferenceIdeal) (hOn_clip_inactive := hOn_clip_inactive)
-- ==== On_clip_inactive.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S8192x512 : Shape := ⟨2, ![8192, 512]⟩
abbrev S8192x4096 : Shape := ⟨2, ![8192, 4096]⟩
abbrev S_ : Shape := ⟨0, ![]⟩
abbrev S1 : Shape := ⟨1, ![1]⟩
abbrev S512x4096 : Shape := ⟨2, ![512, 4096]⟩
abbrev S16 : Shape := ⟨1, ![16]⟩
abbrev S512x512 : Shape := ⟨2, ![512, 512]⟩

abbrev nBuf : Space → Nat
  | .hbm => 10
  | .vmem => 4
  | .smem => 1
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S8192x512, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S512x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S8192x512, .bf16⟩
  | .local _ .smem, ⟨0, _⟩ => ⟨S1, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v7 : Ref sig .tc := ⟨.hbm, 9, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_1 : BitVec 32 := 0#32
  let v6 : BitVec 1 := Scalar.cmpi .ne v5 c0_i32_1
  v6

def k0_dev1 (v0 : BitVec 32) : Nat :=
  let c1_i32_15 : BitVec 32 := 1#32
  let v35 : BitVec 32 := Scalar.addi v0 c1_i32_15
  let c16_i32_16 : BitVec 32 := 16#32
  let v36 : BitVec 32 := Scalar.remsi v35 c16_i32_16
  v36.toNat

def k0_dev2 (v0 : BitVec 32) : Nat :=
  let c2_i32 : BitVec 32 := 2#32
  let v37 : BitVec 32 := Scalar.addi v0 c2_i32
  let c16_i32_18 : BitVec 32 := 16#32
  let v38 : BitVec 32 := Scalar.remsi v37 c16_i32_18
  v38.toNat
def k0_dev3 (v0 : BitVec 32) : Nat :=
  let c3_i32 : BitVec 32 := 3#32
  let v39 : BitVec 32 := Scalar.addi v0 c3_i32
  let c16_i32_20 : BitVec 32 := 16#32
  let v40 : BitVec 32 := Scalar.remsi v39 c16_i32_20
  v40.toNat
def k0_dev4 (v0 : BitVec 32) : Nat :=
  let c4_i32 : BitVec 32 := 4#32
  let v41 : BitVec 32 := Scalar.addi v0 c4_i32
  let c16_i32_22 : BitVec 32 := 16#32
  let v42 : BitVec 32 := Scalar.remsi v41 c16_i32_22
  v42.toNat
def k0_dev5 (v0 : BitVec 32) : Nat :=
  let c5_i32 : BitVec 32 := 5#32
  let v43 : BitVec 32 := Scalar.addi v0 c5_i32
  let c16_i32_24 : BitVec 32 := 16#32
  let v44 : BitVec 32 := Scalar.remsi v43 c16_i32_24
  v44.toNat
def k0_dev6 (v0 : BitVec 32) : Nat :=
  let c6_i32 : BitVec 32 := 6#32
  let v45 : BitVec 32 := Scalar.addi v0 c6_i32
  let c16_i32_26 : BitVec 32 := 16#32
  let v46 : BitVec 32 := Scalar.remsi v45 c16_i32_26
  v46.toNat
def k0_dev7 (v0 : BitVec 32) : Nat :=
  let c7_i32 : BitVec 32 := 7#32
  let v47 : BitVec 32 := Scalar.addi v0 c7_i32
  let c16_i32_28 : BitVec 32 := 16#32
  let v48 : BitVec 32 := Scalar.remsi v47 c16_i32_28
  v48.toNat
def k0_dev8 (v0 : BitVec 32) : Nat :=
  let c8_i32 : BitVec 32 := 8#32
  let v49 : BitVec 32 := Scalar.addi v0 c8_i32
  let c16_i32_30 : BitVec 32 := 16#32
  let v50 : BitVec 32 := Scalar.remsi v49 c16_i32_30
  v50.toNat
def k0_dev9 (v0 : BitVec 32) : Nat :=
  let c9_i32 : BitVec 32 := 9#32
  let v51 : BitVec 32 := Scalar.addi v0 c9_i32
  let c16_i32_32 : BitVec 32 := 16#32
  let v52 : BitVec 32 := Scalar.remsi v51 c16_i32_32
  v52.toNat
def k0_dev10 (v0 : BitVec 32) : Nat :=
  let c10_i32 : BitVec 32 := 10#32
  let v53 : BitVec 32 := Scalar.addi v0 c10_i32
  let c16_i32_34 : BitVec 32 := 16#32
  let v54 : BitVec 32 := Scalar.remsi v53 c16_i32_34
  v54.toNat
def k0_dev11 (v0 : BitVec 32) : Nat :=
  let c11_i32 : BitVec 32 := 11#32
  let v55 : BitVec 32 := Scalar.addi v0 c11_i32
  let c16_i32_36 : BitVec 32 := 16#32
  let v56 : BitVec 32 := Scalar.remsi v55 c16_i32_36
  v56.toNat
def k0_dev12 (v0 : BitVec 32) : Nat :=
  let c12_i32_38 : BitVec 32 := 12#32
  let v57 : BitVec 32 := Scalar.addi v0 c12_i32_38
  let c16_i32_39 : BitVec 32 := 16#32
  let v58 : BitVec 32 := Scalar.remsi v57 c16_i32_39
  v58.toNat
def k0_dev13 (v0 : BitVec 32) : Nat :=
  let c13_i32 : BitVec 32 := 13#32
  let v59 : BitVec 32 := Scalar.addi v0 c13_i32
  let c16_i32_41 : BitVec 32 := 16#32
  let v60 : BitVec 32 := Scalar.remsi v59 c16_i32_41
  v60.toNat
def k0_dev14 (v0 : BitVec 32) : Nat :=
  let c14_i32 : BitVec 32 := 14#32
  let v61 : BitVec 32 := Scalar.addi v0 c14_i32
  let c16_i32_43 : BitVec 32 := 16#32
  let v62 : BitVec 32 := Scalar.remsi v61 c16_i32_43
  v62.toNat
def k0_dev15 (v0 : BitVec 32) : Nat :=
  let c15_i32_45 : BitVec 32 := 15#32
  let v63 : BitVec 32 := Scalar.addi v0 c15_i32_45
  let c16_i32_46 : BitVec 32 := 16#32
  let v64 : BitVec 32 := Scalar.remsi v63 c16_i32_46
  v64.toNat
def k0_off1 (v0 : BitVec 32) : Fin 2 → Nat :=
  let c512_i32_50 : BitVec 32 := 512#32
  let v66 : BitVec 32 := Scalar.muli v0 c512_i32_50
  let c0_i32_51 : BitVec 32 := 0#32
  ![v66.toNat, 0]
def k0_off2 (v0 : BitVec 32) : Fin 1 → Nat :=
  ![v0.toNat]
def k0_off3 (v0 : BitVec 32) (c1_i32_53 : BitVec 32) : Fin 2 → Nat :=
  let v69 : BitVec 32 := Scalar.addi v0 c1_i32_53
  let c16_i32_54 : BitVec 32 := 16#32
  let v70 : BitVec 32 := Scalar.remsi v69 c16_i32_54
  let c512_i32_55 : BitVec 32 := 512#32
  let v71 : BitVec 32 := Scalar.muli v70 c512_i32_55
  let c0_i32_59 : BitVec 32 := 0#32
  ![v71.toNat, 0]
def k0_dev16 (v0 : BitVec 32) : Nat :=
  let c1_i32_53 : BitVec 32 := 1#32
  let v69 : BitVec 32 := Scalar.addi v0 c1_i32_53
  let c16_i32_54 : BitVec 32 := 16#32
  let v70 : BitVec 32 := Scalar.remsi v69 c16_i32_54
  v70.toNat
def k0_dev17 (v0 : BitVec 32) : Nat :=
  let c2_i32_60 : BitVec 32 := 2#32
  let v79 : BitVec 32 := Scalar.addi v0 c2_i32_60
  let c16_i32_61 : BitVec 32 := 16#32
  let v80 : BitVec 32 := Scalar.remsi v79 c16_i32_61
  v80.toNat
def k0_dev18 (v0 : BitVec 32) : Nat :=
  let c3_i32_67 : BitVec 32 := 3#32
  let v89 : BitVec 32 := Scalar.addi v0 c3_i32_67
  let c16_i32_68 : BitVec 32 := 16#32
  let v90 : BitVec 32 := Scalar.remsi v89 c16_i32_68
  v90.toNat
def k0_cond2 (i : grid0.Coords) : BitVec 1 :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .ne v8 c0_i32_3
  v9

def k0_off4 (i : grid0.Coords) (v0 : BitVec 32) : Fin 1 → Nat :=
  let c16_i32 : BitVec 32 := 16#32
  let v1 : BitVec 32 := Scalar.addi v0 c16_i32
  let arg0 : BitVec 32 := BitVec.ofNat 32 (i 0).val
  let v2 : BitVec 32 := Scalar.subi v1 arg0
  let c16_i32_0 : BitVec 32 := 16#32
  let v3 : BitVec 32 := Scalar.remsi v2 c16_i32_0
  ![v3.toNat]
def k0_off5 (i : grid0.Coords) (v0 : BitVec 32) : Fin 2 → Nat :=
  let c16_i32 : BitVec 32 := 16#32
  let v1 : BitVec 32 := Scalar.addi v0 c16_i32
  let arg0 : BitVec 32 := BitVec.ofNat 32 (i 0).val
  let v2 : BitVec 32 := Scalar.subi v1 arg0
  let c16_i32_0 : BitVec 32 := 16#32
  let v3 : BitVec 32 := Scalar.remsi v2 c16_i32_0
  let c512_i32_15 : BitVec 32 := 512#32
  let v34 : BitVec 32 := Scalar.muli v3 c512_i32_15
  let c0_i32_17 : BitVec 32 := 0#32
  ![v34.toNat, 0]
def k0_off6 (i : grid0.Coords) (v0 : BitVec 32) : Fin 2 → Nat :=
  let c16_i32 : BitVec 32 := 16#32
  let v1 : BitVec 32 := Scalar.addi v0 c16_i32
  let arg0 : BitVec 32 := BitVec.ofNat 32 (i 0).val
  let v2 : BitVec 32 := Scalar.subi v1 arg0
  let c16_i32_0 : BitVec 32 := 16#32
  let v3 : BitVec 32 := Scalar.remsi v2 c16_i32_0
  let c512_i32 : BitVec 32 := 512#32
  let v10 : BitVec 32 := Scalar.muli v3 c512_i32
  let v11 : Index := Scalar.indexCast v10
  let c0_4 : Index := 0#32
  ![v11.toNat, 0]
def k0_cond5 (i : grid0.Coords) : BitVec 1 :=
  let arg0 : BitVec 32 := BitVec.ofNat 32 (i 0).val
  let c1_i32 : BitVec 32 := 1#32
  let v23 : BitVec 1 := Scalar.cmpi .sge arg0 c1_i32
  let c12_i32 : BitVec 32 := 12#32
  let v24 : BitVec 1 := Scalar.cmpi .sle arg0 c12_i32
  let v25 : BitVec 1 := Scalar.andi v23 v24
  let v26 : BitVec 32 := Scalar.extui v25
  let c0_i32_11 : BitVec 32 := 0#32
  let v27 : BitVec 1 := Scalar.cmpi .ne v26 c0_i32_11
  v27

def k0_off7 (i : grid0.Coords) : Fin 1 → Nat :=
  let arg0 : BitVec 32 := BitVec.ofNat 32 (i 0).val
  let c3_i32 : BitVec 32 := 3#32
  let v34 : BitVec 32 := Scalar.addi arg0 c3_i32
  ![v34.toNat]
def k0_off8 (v0 : BitVec 32) : Fin 1 → Nat :=
  ![v0.toNat]
def k0_off9 (v0 : BitVec 32) : Fin 2 → Nat :=
  let c512_i32_17 : BitVec 32 := 512#32
  let v38 : BitVec 32 := Scalar.muli v0 c512_i32_17
  let c0_i32_18 : BitVec 32 := 0#32
  ![v38.toNat, 0]
def k0_off10 (i : grid0.Coords) (v0 : BitVec 32) : Fin 2 → Nat :=
  let arg0 : BitVec 32 := BitVec.ofNat 32 (i 0).val
  let c3_i32 : BitVec 32 := 3#32
  let v34 : BitVec 32 := Scalar.addi arg0 c3_i32
  let v35 : BitVec 32 := Scalar.addi v0 v34
  let c16_i32_15 : BitVec 32 := 16#32
  let v36 : BitVec 32 := Scalar.remsi v35 c16_i32_15
  let c512_i32_16 : BitVec 32 := 512#32
  let v37 : BitVec 32 := Scalar.muli v36 c512_i32_16
  let c0_i32_19 : BitVec 32 := 0#32
  ![v37.toNat, 0]
def k0_dev19 (i : grid0.Coords) (v0 : BitVec 32) : Nat :=
  let arg0 : BitVec 32 := BitVec.ofNat 32 (i 0).val
  let c3_i32 : BitVec 32 := 3#32
  let v34 : BitVec 32 := Scalar.addi arg0 c3_i32
  let v35 : BitVec 32 := Scalar.addi v0 v34
  let c16_i32_15 : BitVec 32 := 16#32
  let v36 : BitVec 32 := Scalar.remsi v35 c16_i32_15
  v36.toNat
def k0_cond6 (i : grid0.Coords) : BitVec 1 :=
  let arg0 : BitVec 32 := BitVec.ofNat 32 (i 0).val
  let c1_i32_12 : BitVec 32 := 1#32
  let v28 : BitVec 1 := Scalar.cmpi .sge arg0 c1_i32_12
  let v29 : BitVec 32 := Scalar.extui v28
  let c0_i32_13 : BitVec 32 := 0#32
  let v30 : BitVec 1 := Scalar.cmpi .ne v29 c0_i32_13
  v30

def k0_off11 (i : grid0.Coords) : Fin 1 → Nat :=
  let arg0 : BitVec 32 := BitVec.ofNat 32 (i 0).val
  ![arg0.toNat]
def k0_off12 (i : grid0.Coords) (v0 : BitVec 32) : Fin 2 → Nat :=
  let arg0 : BitVec 32 := BitVec.ofNat 32 (i 0).val
  let v34 : BitVec 32 := Scalar.addi v0 arg0
  let c16_i32_15 : BitVec 32 := 16#32
  let v35 : BitVec 32 := Scalar.remsi v34 c16_i32_15
  let c512_i32_16 : BitVec 32 := 512#32
  let v36 : BitVec 32 := Scalar.muli v35 c512_i32_16
  let c0_i32_19 : BitVec 32 := 0#32
  ![v36.toNat, 0]
def k0_off13 (v0 : BitVec 32) : Fin 2 → Nat :=
  let c512_i32_17 : BitVec 32 := 512#32
  let v37 : BitVec 32 := Scalar.muli v0 c512_i32_17
  let c0_i32_20 : BitVec 32 := 0#32
  ![v37.toNat, 0]

def k0_chk1_0 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), (k0_dev4 v0) < nD) ∧
  (∀ (k0_h1 : k0_cond1 i = 1#1), (k0_dev5 v0) < nD) ∧
  (∀ (k0_h1 : k0_cond1 i = 1#1), (k0_dev6 v0) < nD) ∧
  (∀ (k0_h1 : k0_cond1 i = 1#1), (k0_dev7 v0) < nD) ∧
  (∀ (k0_h1 : k0_cond1 i = 1#1), (k0_dev8 v0) < nD) ∧
  (∀ (k0_h1 : k0_cond1 i = 1#1), (k0_dev9 v0) < nD) ∧
  (∀ (k0_h1 : k0_cond1 i = 1#1), (k0_dev10 v0) < nD) ∧
  (∀ (k0_h1 : k0_cond1 i = 1#1), (k0_dev11 v0) < nD) ∧
  (∀ (k0_h1 : k0_cond1 i = 1#1), (k0_dev12 v0) < nD) ∧
  (∀ (k0_h1 : k0_cond1 i = 1#1), (k0_dev13 v0) < nD) ∧
  (∀ (k0_h1 : k0_cond1 i = 1#1), (k0_dev14 v0) < nD) ∧
  (∀ (k0_h1 : k0_cond1 i = 1#1), (k0_dev15 v0) < nD) ∧
  (∀ (k0_h1 : k0_cond1 i = 1#1), ∀ a, (k0_off1 v0) a + S512x512.size a ≤ S8192x512.size a) ∧
  (∀ (k0_h1 : k0_cond1 i = 1#1), ∀ (hinb : ∀ a, (k0_off1 v0) a + S512x512.size a ≤ S8192x512.size a), (Rect.unit (s := S8192x512) (k0_off1 v0) S512x512.size hinb).WholeWords (EltTy.packing .bf16)) ∧
  (∀ (k0_h1 : k0_cond1 i = 1#1), ∀ a, (k0_off2 v0) a + S1.size a ≤ S16.size a) ∧
  (∀ (k0_h1 : k0_cond1 i = 1#1), ∀ (r : Fin 3), ∀ a, (k0_off3 v0 (BitVec.ofNat 32 (1 + r.val))) a + S512x512.size a ≤ S8192x512.size a) ∧
  (∀ (k0_h1 : k0_cond1 i = 1#1), ∀ (r : Fin 3), ∀ (hinb : ∀ a, (k0_off3 v0 (BitVec.ofNat 32 (1 + r.val))) a + S512x512.size a ≤ S8192x512.size a), (Rect.unit (s := S8192x512) (k0_off3 v0 (BitVec.ofNat 32 (1 + r.val))) S512x512.size hinb).WholeWords (EltTy.packing .bf16)) ∧
  (∀ (k0_h1 : k0_cond1 i = 1#1), (k0_dev16 v0) < nD) ∧
  (∀ (k0_h1 : k0_cond1 i = 1#1), (k0_dev17 v0) < nD) ∧
  (∀ (k0_h1 : k0_cond1 i = 1#1), (k0_dev18 v0) < nD) ∧
  (∀ (k0_h2 : k0_cond2 i = 1#1), ∀ a, (k0_off4 i v0) a + S1.size a ≤ S16.size a) ∧
  (∀ (k0_h2 : k0_cond2 i = 1#1), ∀ a, (k0_off5 i v0) a + S512x512.size a ≤ S8192x512.size a) ∧
  (∀ (k0_h2 : k0_cond2 i = 1#1), ∀ (hinb : ∀ a, (k0_off5 i v0) a + S512x512.size a ≤ S8192x512.size a), (Rect.unit (s := S8192x512) (k0_off5 i v0) S512x512.size hinb).WholeWords (EltTy.packing .bf16)) ∧
  (∀ a, (k0_off6 i v0) a + S512x512.size a ≤ S8192x512.size a) ∧
  (∀ (k0_h5 : k0_cond5 i = 1#1), ∀ a, (k0_off8 v0) a + S1.size a ≤ S16.size a) ∧
  (∀ (k0_h5 : k0_cond5 i = 1#1), ∀ a, (k0_off9 v0) a + S512x512.size a ≤ S8192x512.size a) ∧
  (∀ (k0_h5 : k0_cond5 i = 1#1), ∀ a, (k0_off10 i v0) a + S512x512.size a ≤ S8192x512.size a) ∧
  (∀ (k0_h5 : k0_cond5 i = 1#1), ∀ (hinb : ∀ a, (k0_off10 i v0) a + S512x512.size a ≤ S8192x512.size a), (Rect.unit (s := S8192x512) (k0_off10 i v0) S512x512.size hinb).WholeWords (EltTy.packing .bf16)) ∧
  (∀ (k0_h5 : k0_cond5 i = 1#1), ∀ (hinb : ∀ a, (k0_off9 v0) a + S512x512.size a ≤ S8192x512.size a), (Rect.unit (s := S8192x512) (k0_off9 v0) S512x512.size hinb).WholeWords (EltTy.packing .bf16))
def k0_chk1_1 (i : grid0.Coords) (v0 : BitVec 32) : Prop :=
  (∀ (k0_h5 : k0_cond5 i = 1#1), (k0_dev19 i v0) < nD) ∧
  (∀ (k0_h6 : k0_cond6 i = 1#1), ∀ a, (k0_off12 i v0) a + S512x512.size a ≤ S8192x512.size a) ∧
  (∀ (k0_h6 : k0_cond6 i = 1#1), ∀ a, (k0_off13 v0) a + S512x512.size a ≤ S8192x512.size a) ∧
  (∀ (k0_h6 : k0_cond6 i = 1#1), ∀ (hinb : ∀ a, (k0_off13 v0) a + S512x512.size a ≤ S8192x512.size a), (Rect.unit (s := S8192x512) (k0_off13 v0) S512x512.size hinb).WholeWords (EltTy.packing .bf16)) ∧
  (∀ (k0_h6 : k0_cond6 i = 1#1), ∀ (hinb : ∀ a, (k0_off12 i v0) a + S512x512.size a ≤ S8192x512.size a), (Rect.unit (s := S8192x512) (k0_off12 i v0) S512x512.size hinb).WholeWords (EltTy.packing .bf16))
def k0_chk1 (i : grid0.Coords) (v0 : BitVec 32) : Prop :=
  k0_chk1_0 i v0 ∧
  k0_chk1_1 i v0
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.1.2.2.1 k0_h1
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.1.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.1.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.1.2.2.2.2.2.1 k0_h1
theorem k0_dev7_lt : ∀ (i : grid0.Coords) (v0 : BitVec 32) (k0_hw1 : k0_chk1 i v0), ∀ (k0_h1 : k0_cond1 i = 1#1), (k0_dev7 v0) < nD := fun i v0 k0_hw1 k0_h1 => k0_hw1.1.2.2.2.2.2.2.1 k0_h1
theorem k0_dev8_lt : ∀ (i : grid0.Coords) (v0 : BitVec 32) (k0_hw1 : k0_chk1 i v0), ∀ (k0_h1 : k0_cond1 i = 1#1), (k0_dev8 v0) < nD := fun i v0 k0_hw1 k0_h1 => k0_hw1.1.2.2.2.2.2.2.2.1 k0_h1
theorem k0_dev9_lt : ∀ (i : grid0.Coords) (v0 : BitVec 32) (k0_hw1 : k0_chk1 i v0), ∀ (k0_h1 : k0_cond1 i = 1#1), (k0_dev9 v0) < nD := fun i v0 k0_hw1 k0_h1 => k0_hw1.1.2.2.2.2.2.2.2.2.1 k0_h1
theorem k0_dev10_lt : ∀ (i : grid0.Coords) (v0 : BitVec 32) (k0_hw1 : k0_chk1 i v0), ∀ (k0_h1 : k0_cond1 i = 1#1), (k0_dev10 v0) < nD := fun i v0 k0_hw1 k0_h1 => k0_hw1.1.2.2.2.2.2.2.2.2.2.1 k0_h1
theorem k0_dev11_lt : ∀ (i : grid0.Coords) (v0 : BitVec 32) (k0_hw1 : k0_chk1 i v0), ∀ (k0_h1 : k0_cond1 i = 1#1), (k0_dev11 v0) < nD := fun i v0 k0_hw1 k0_h1 => k0_hw1.1.2.2.2.2.2.2.2.2.2.2.1 k0_h1
theorem k0_dev12_lt : ∀ (i : grid0.Coords) (v0 : BitVec 32) (k0_hw1 : k0_chk1 i v0), ∀ (k0_h1 : k0_cond1 i = 1#1), (k0_dev12 v0) < nD := fun i v0 k0_hw1 k0_h1 => k0_hw1.1.2.2.2.2.2.2.2.2.2.2.2.1 k0_h1
theorem k0_dev13_lt : ∀ (i : grid0.Coords) (v0 : BitVec 32) (k0_hw1 : k0_chk1 i v0), ∀ (k0_h1 : k0_cond1 i = 1#1), (k0_dev13 v0) < nD := fun i v0 k0_hw1 k0_h1 => k0_hw1.1.2.2.2.2.2.2.2.2.2.2.2.2.1 k0_h1
theorem k0_dev14_lt : ∀ (i : grid0.Coords) (v0 : BitVec 32) (k0_hw1 : k0_chk1 i v0), ∀ (k0_h1 : k0_cond1 i = 1#1), (k0_dev14 v0) < nD := fun i v0 k0_hw1 k0_h1 => k0_hw1.1.2.2.2.2.2.2.2.2.2.2.2.2.2.1 k0_h1
theorem k0_dev15_lt : ∀ (i : grid0.Coords) (v0 : BitVec 32) (k0_hw1 : k0_chk1 i v0), ∀ (k0_h1 : k0_cond1 i = 1#1), (k0_dev15 v0) < nD := fun i v0 k0_hw1 k0_h1 => k0_hw1.1.2.2.2.2.2.2.2.2.2.2.2.2.2.2.1 k0_h1
theorem k0_off1_inb : ∀ (i : grid0.Coords) (v0 : BitVec 32) (k0_hw1 : k0_chk1 i v0), ∀ (k0_h1 : k0_cond1 i = 1#1), ∀ a, (k0_off1 v0) a + S512x512.size a ≤ S8192x512.size a := fun i v0 k0_hw1 k0_h1 => k0_hw1.1.2.2.2.2.2.2.2.2.2.2.2.2.2.2.2.1 k0_h1
theorem k0_off1_wordsbf16 : ∀ (i : grid0.Coords) (v0 : BitVec 32) (k0_hw1 : k0_chk1 i v0), ∀ (k0_h1 : k0_cond1 i = 1#1), (Rect.unit (s := S8192x512) (k0_off1 v0) S512x512.size (k0_off1_inb i v0 k0_hw1 k0_h1)).WholeWords (EltTy.packing .bf16) := fun i v0 k0_hw1 k0_h1 => k0_hw1.1.2.2.2.2.2.2.2.2.2.2.2.2.2.2.2.2.1 k0_h1 (k0_off1_inb i v0 k0_hw1 k0_h1)
theorem k0_off2_inb : ∀ (i : grid0.Coords) (v0 : BitVec 32) (k0_hw1 : k0_chk1 i v0), ∀ (k0_h1 : k0_cond1 i = 1#1), ∀ a, (k0_off2 v0) a + S1.size a ≤ S16.size a := fun i v0 k0_hw1 k0_h1 => k0_hw1.1.2.2.2.2.2.2.2.2.2.2.2.2.2.2.2.2.2.1 k0_h1
theorem k0_off3_inb : ∀ (i : grid0.Coords) (v0 : BitVec 32) (k0_hw1 : k0_chk1 i v0), ∀ (k0_h1 : k0_cond1 i = 1#1), ∀ (r : Fin 3), ∀ a, (k0_off3 v0 (BitVec.ofNat 32 (1 + r.val))) a + S512x512.size a ≤ S8192x512.size a := fun i v0 k0_hw1 k0_h1 r => k0_hw1.1.2.2.2.2.2.2.2.2.2.2.2.2.2.2.2.2.2.2.1 k0_h1 r
theorem k0_off3_wordsbf16 : ∀ (i : grid0.Coords) (v0 : BitVec 32) (k0_hw1 : k0_chk1 i v0), ∀ (k0_h1 : k0_cond1 i = 1#1), ∀ (r : Fin 3), (Rect.unit (s := S8192x512) (k0_off3 v0 (BitVec.ofNat 32 (1 + r.val))) S512x512.size (k0_off3_inb i v0 k0_hw1 k0_h1 r)).WholeWords (EltTy.packing .bf16) := fun i v0 k0_hw1 k0_h1 r => k0_hw1.1.2.2.2.2.2.2.2.2.2.2.2.2.2.2.2.2.2.2.2.1 k0_h1 r (k0_off3_inb i v0 k0_hw1 k0_h1 r)
theorem k0_dev16_lt : ∀ (i : grid0.Coords) (v0 : BitVec 32) (k0_hw1 : k0_chk1 i v0), ∀ (k0_h1 : k0_cond1 i = 1#1), (k0_dev16 v0) < nD := fun i v0 k0_hw1 k0_h1 => k0_hw1.1.2.2.2.2.2.2.2.2.2.2.2.2.2.2.2.2.2.2.2.2.1 k0_h1
theorem k0_dev17_lt : ∀ (i : grid0.Coords) (v0 : BitVec 32) (k0_hw1 : k0_chk1 i v0), ∀ (k0_h1 : k0_cond1 i = 1#1), (k0_dev17 v0) < nD := fun i v0 k0_hw1 k0_h1 => k0_hw1.1.2.2.2.2.2.2.2.2.2.2.2.2.2.2.2.2.2.2.2.2.2.1 k0_h1
theorem k0_dev18_lt : ∀ (i : grid0.Coords) (v0 : BitVec 32) (k0_hw1 : k0_chk1 i v0), ∀ (k0_h1 : k0_cond1 i = 1#1), (k0_dev18 v0) < nD := fun i v0 k0_hw1 k0_h1 => k0_hw1.1.2.2.2.2.2.2.2.2.2.2.2.2.2.2.2.2.2.2.2.2.2.2.1 k0_h1
theorem k0_off4_inb : ∀ (i : grid0.Coords) (v0 : BitVec 32) (k0_hw1 : k0_chk1 i v0), ∀ (k0_h2 : k0_cond2 i = 1#1), ∀ a, (k0_off4 i v0) a + S1.size a ≤ S16.size a := fun i v0 k0_hw1 k0_h2 => k0_hw1.1.2.2.2.2.2.2.2.2.2.2.2.2.2.2.2.2.2.2.2.2.2.2.2.1 k0_h2
theorem k0_off5_inb : ∀ (i : grid0.Coords) (v0 : BitVec 32) (k0_hw1 : k0_chk1 i v0), ∀ (k0_h2 : k0_cond2 i = 1#1), ∀ a, (k0_off5 i v0) a + S512x512.size a ≤ S8192x512.size a := fun i v0 k0_hw1 k0_h2 => k0_hw1.1.2.2.2.2.2.2.2.2.2.2.2.2.2.2.2.2.2.2.2.2.2.2.2.2.1 k0_h2
theorem k0_off5_wordsbf16 : ∀ (i : grid0.Coords) (v0 : BitVec 32) (k0_hw1 : k0_chk1 i v0), ∀ (k0_h2 : k0_cond2 i = 1#1), (Rect.unit (s := S8192x512) (k0_off5 i v0) S512x512.size (k0_off5_inb i v0 k0_hw1 k0_h2)).WholeWords (EltTy.packing .bf16) := fun i v0 k0_hw1 k0_h2 => k0_hw1.1.2.2.2.2.2.2.2.2.2.2.2.2.2.2.2.2.2.2.2.2.2.2.2.2.2.1 k0_h2 (k0_off5_inb i v0 k0_hw1 k0_h2)
theorem k0_off6_inb : ∀ (i : grid0.Coords) (v0 : BitVec 32) (k0_hw1 : k0_chk1 i v0), ∀ a, (k0_off6 i v0) a + S512x512.size a ≤ S8192x512.size a := fun i v0 k0_hw1 => k0_hw1.1.2.2.2.2.2.2.2.2.2.2.2.2.2.2.2.2.2.2.2.2.2.2.2.2.2.2.1
theorem k0_off8_inb : ∀ (i : grid0.Coords) (v0 : BitVec 32) (k0_hw1 : k0_chk1 i v0), ∀ (k0_h5 : k0_cond5 i = 1#1), ∀ a, (k0_off8 v0) a + S1.size a ≤ S16.size a := fun i v0 k0_hw1 k0_h5 => k0_hw1.1.2.2.2.2.2.2.2.2.2.2.2.2.2.2.2.2.2.2.2.2.2.2.2.2.2.2.2.1 k0_h5
theorem k0_off9_inb : ∀ (i : grid0.Coords) (v0 : BitVec 32) (k0_hw1 : k0_chk1 i v0), ∀ (k0_h5 : k0_cond5 i = 1#1), ∀ a, (k0_off9 v0) a + S512x512.size a ≤ S8192x512.size a := fun i v0 k0_hw1 k0_h5 => k0_hw1.1.2.2.2.2.2.2.2.2.2.2.2.2.2.2.2.2.2.2.2.2.2.2.2.2.2.2.2.2.1 k0_h5
theorem k0_off10_inb : ∀ (i : grid0.Coords) (v0 : BitVec 32) (k0_hw1 : k0_chk1 i v0), ∀ (k0_h5 : k0_cond5 i = 1#1), ∀ a, (k0_off10 i v0) a + S512x512.size a ≤ S8192x512.size a := fun i v0 k0_hw1 k0_h5 => k0_hw1.1.2.2.2.2.2.2.2.2.2.2.2.2.2.2.2.2.2.2.2.2.2.2.2.2.2.2.2.2.2.1 k0_h5
theorem k0_off10_wordsbf16 : ∀ (i : grid0.Coords) (v0 : BitVec 32) (k0_hw1 : k0_chk1 i v0), ∀ (k0_h5 : k0_cond5 i = 1#1), (Rect.unit (s := S8192x512) (k0_off10 i v0) S512x512.size (k0_off10_inb i v0 k0_hw1 k0_h5)).WholeWords (EltTy.packing .bf16) := fun i v0 k0_hw1 k0_h5 => k0_hw1.1.2.2.2.2.2.2.2.2.2.2.2.2.2.2.2.2.2.2.2.2.2.2.2.2.2.2.2.2.2.2.1 k0_h5 (k0_off10_inb i v0 k0_hw1 k0_h5)
theorem k0_off9_wordsbf16 : ∀ (i : grid0.Coords) (v0 : BitVec 32) (k0_hw1 : k0_chk1 i v0), ∀ (k0_h5 : k0_cond5 i = 1#1), (Rect.unit (s := S8192x512) (k0_off9 v0) S512x512.size (k0_off9_inb i v0 k0_hw1 k0_h5)).WholeWords (EltTy.packing .bf16) := fun i v0 k0_hw1 k0_h5 => k0_hw1.1.2.2.2.2.2.2.2.2.2.2.2.2.2.2.2.2.2.2.2.2.2.2.2.2.2.2.2.2.2.2.2 k0_h5 (k0_off9_inb i v0 k0_hw1 k0_h5)
theorem k0_dev19_lt : ∀ (i : grid0.Coords) (v0 : BitVec 32) (k0_hw1 : k0_chk1 i v0), ∀ (k0_h5 : k0_cond5 i = 1#1), (k0_dev19 i v0) < nD := fun i v0 k0_hw1 k0_h5 => k0_hw1.2.1 k0_h5
theorem k0_off12_inb : ∀ (i : grid0.Coords) (v0 : BitVec 32) (k0_hw1 : k0_chk1 i v0), ∀ (k0_h6 : k0_cond6 i = 1#1), ∀ a, (k0_off12 i v0) a + S512x512.size a ≤ S8192x512.size a := fun i v0 k0_hw1 k0_h6 => k0_hw1.2.2.1 k0_h6
theorem k0_off13_inb : ∀ (i : grid0.Coords) (v0 : BitVec 32) (k0_hw1 : k0_chk1 i v0), ∀ (k0_h6 : k0_cond6 i = 1#1), ∀ a, (k0_off13 v0) a + S512x512.size a ≤ S8192x512.size a := fun i v0 k0_hw1 k0_h6 => k0_hw1.2.2.2.1 k0_h6
theorem k0_off13_wordsbf16 : ∀ (i : grid0.Coords) (v0 : BitVec 32) (k0_hw1 : k0_chk1 i v0), ∀ (k0_h6 : k0_cond6 i = 1#1), (Rect.unit (s := S8192x512) (k0_off13 v0) S512x512.size (k0_off13_inb i v0 k0_hw1 k0_h6)).WholeWords (EltTy.packing .bf16) := fun i v0 k0_hw1 k0_h6 => k0_hw1.2.2.2.2.1 k0_h6 (k0_off13_inb i v0 k0_hw1 k0_h6)
theorem k0_off12_wordsbf16 : ∀ (i : grid0.Coords) (v0 : BitVec 32) (k0_hw1 : k0_chk1 i v0), ∀ (k0_h6 : k0_cond6 i = 1#1), (Rect.unit (s := S8192x512) (k0_off12 i v0) S512x512.size (k0_off12_inb i v0 k0_hw1 k0_h6)).WholeWords (EltTy.packing .bf16) := fun i v0 k0_hw1 k0_h6 => k0_hw1.2.2.2.2.2 k0_h6 (k0_off12_inb i v0 k0_hw1 k0_h6)

def k0_cond3 (i : grid0.Coords) : BitVec 1 :=
  let arg0 : BitVec 32 := BitVec.ofNat 32 (i 0).val
  let c0_i32_7 : BitVec 32 := 0#32
  let v17 : BitVec 1 := Scalar.cmpi .eq arg0 c0_i32_7
  let v18 : BitVec 32 := Scalar.extui v17
  let c0_i32_8 : BitVec 32 := 0#32
  let v19 : BitVec 1 := Scalar.cmpi .ne v18 c0_i32_8
  v19

def k0_cond4 (i : grid0.Coords) : BitVec 1 :=
  let arg0 : BitVec 32 := BitVec.ofNat 32 (i 0).val
  let c0_i32_9 : BitVec 32 := 0#32
  let v20 : BitVec 1 := Scalar.cmpi .sgt arg0 c0_i32_9
  let v21 : BitVec 32 := Scalar.extui v20
  let c0_i32_10 : BitVec 32 := 0#32
  let v22 : BitVec 1 := Scalar.cmpi .ne v21 c0_i32_10
  v22

def k0_cond7 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_14 : BitVec 32 := 0#32
  let v33 : BitVec 1 := Scalar.cmpi .ne v32 c0_i32_14
  v33

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c16_i32 : BitVec 32 := 16#32
  let v1 : BitVec 32 := Scalar.addi v0 c16_i32
  let v2 : BitVec 32 := Scalar.subi v1 arg0
  let c16_i32_0 : BitVec 32 := 16#32
  let v3 : BitVec 32 := Scalar.remsi v2 c16_i32_0
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cells.lean ====
/- The exchange protocol of the kernel: its semaphore cells, the slots of the communication buffer and the blocks of the
   input they receive, what a slot holds once it is filled, and the duties of the cells. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic
public import Idealize.ShloMosaic.PureOps
public import Idealize.ShloMosaic.Lib.Pipeline.ValueKit.Geometry

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Slots and blocks -/

theorem inb512 (k : Fin 16) : ∀ a, (![512 * k.val, 0] : Fin 2 → ℕ) a + S512x512.size a ≤ S8192x512.size a := by
  revert k; decide

/-- Rows `512 k … 512 k + 511`. -/
abbrev rowsR (k : Fin 16) : Rect S8192x512 := Rect.unit (s := S8192x512) ![512 * k.val, 0] S512x512.size (inb512 k)

abbrev commM : Memref sig .tc .vmem S8192x512 .bf16 := Memref.whole cc0_scratch0
abbrev xM : Memref sig .tc .hbm S8192x512 .bf16 := Memref.whole main_v1

/-- Slot `k` of the communication buffer: where device `k`'s rows arrive. -/
abbrev slotM (k : Fin 16) : Memref sig .tc .vmem S512x512 .bf16 := (commM.slice (rowsR k) (fun _ => rfl) : Memref sig .tc .vmem S512x512 .bf16)
/-- Block `k` of a device's own input: the rows that go to device `k`. -/
abbrev srcM (k : Fin 16) : Memref sig .tc .hbm S512x512 .bf16 := (xM.slice (rowsR k) (fun _ => rfl) : Memref sig .tc .hbm S512x512 .bf16)

/-- The bytes of one slot, as its semaphore counts them. -/
abbrev NB : ℕ := (slotM 0).view.dmaCredit
theorem NB_pos : 0 < NB := View.dmaCredit_pos _ (by decide)
theorem credit_slot (k : Fin 16) : (slotM k).view.dmaCredit = NB := rfl
theorem credit_src (k : Fin 16) : (srcM k).view.dmaCredit = NB := by rfl

theorem div512_lt (i : S8192x512.Idx) : (i 0).val / 512 < 16 := by
  have h : (i 0).val < 8192 := (i 0).isLt
  omega
/-- The slot a row lies in, -/
def blk (i : S8192x512.Idx) : Fin 16 := ⟨(i 0).val / 512, div512_lt i⟩
theorem sz512 (a : Fin 2) : S512x512.size a = 512 := by revert a; decide
/-- and its place there. -/
def loc (i : S8192x512.Idx) : S512x512.Idx := fun a => ⟨(i a).val % 512, by rw [sz512 a]; exact Nat.mod_lt _ (by decide)⟩

theorem emb_val (k : Fin 16) (x : S512x512.Idx) (a : Fin 2) :
    (((rowsR k).emb x a : Fin _) : ℕ) = (![512 * k.val, 0] : Fin 2 → ℕ) a + (x a).val :=
  ValueKit.rect_emb_unit_val (s := S8192x512) ![512 * k.val, 0] S512x512.size (inb512 k) x a

theorem x_lt (x : S512x512.Idx) (a : Fin 2) : (x a).val < 512 := lt_of_lt_of_eq (x a).isLt (sz512 a)

theorem blk_emb (k : Fin 16) (x : S512x512.Idx) : blk ((rowsR k).emb x) = k := by
  apply Fin.ext
  have h := emb_val k x 0
  have h0 : (![512 * k.val, 0] : Fin 2 → ℕ) 0 = 512 * k.val := rfl
  have hx := x_lt x 0
  show (((rowsR k).emb x 0 : Fin _) : ℕ) / 512 = k.val
  rw [h, h0]; omega

theorem loc_emb (k : Fin 16) (x : S512x512.Idx) : loc ((rowsR k).emb x) = x := by
  funext a
  apply Fin.ext
  show (((rowsR k).emb x a : Fin _) : ℕ) % 512 = (x a).val
  have h := emb_val k x a
  have hx := x_lt x a
  rw [h]
  have h0 : (![512 * k.val, 0] : Fin 2 → ℕ) 0 = 512 * k.val := rfl
  have h1 : (![512 * k.val, 0] : Fin 2 → ℕ) 1 = 0 := rfl
  match a with
  | 0 => rw [h0]; omega
  | 1 => rw [h1]; omega

theorem emb_blk_loc (i : S8192x512.Idx) : (rowsR (blk i)).emb (loc i) = i := by
  funext a
  apply Fin.ext
  have h := emb_val (blk i) (loc i) a
  have h0 : (![512 * (blk i).val, 0] : Fin 2 → ℕ) 0 = 512 * ((i 0).val / 512) := rfl
  have h1 : (![512 * (blk i).val, 0] : Fin 2 → ℕ) 1 = 0 := rfl
  have hl : (loc i a).val = (i a).val % 512 := rfl
  rw [h, hl]
  match a with
  | 0 => rw [h0]; omega
  | 1 =>
    rw [h1]
    have : (i 1).val < 512 := (i 1).isLt
    omega

theorem mem_rows (k : Fin 16) (i : S8192x512.Idx) : i ∈ (rowsR k).set ↔ blk i = k := by
  rw [← Rect.map_emb_univ]
  simp only [Finset.mem_map, Finset.mem_univ, true_and]
  constructor
  · rintro ⟨x, rfl⟩; exact blk_emb k x
  · rintro rfl; exact ⟨loc i, emb_blk_loc i⟩

theorem slot_set (k : Fin 16) : (slotM k).view.set = (rowsR k).set := View.set_slice_whole _ _
theorem src_set (k : Fin 16) : (srcM k).view.set = (rowsR k).set := View.set_slice_whole _ _

theorem rows_disjoint (k k' : Fin 16) (h : k ≠ k') : Disjoint (rowsR k).set (rowsR k').set :=
  Finset.disjoint_left.mpr fun i hi hi' => h (((mem_rows k i).mp hi).symm.trans ((mem_rows k' i).mp hi'))
theorem rows_cover : Finset.univ.biUnion (fun k => (rowsR k).set) = Finset.univ := by
  ext i
  simp only [Finset.mem_biUnion, Finset.mem_univ, true_and, iff_true]
  exact ⟨blk i, (mem_rows _ i).mpr rfl⟩

/-! ## Contents -/

/-- What every device's `main_v1` holds. -/
abbrev XB (F : FTy → Type) : Type := Dev nD → (main_v1 : Ref sig .tc).ty.Contents (Elt F)

/-- The communication buffer of device `c` once every slot has arrived: row `512 k + r` is row `512 c + r` of device `k`'s input. -/
def gath (xb : XB F) (c : Dev nD) : (cc0_scratch0 : Ref sig .tc).ty.Contents (Elt F) :=
  fun i => xb (blk i) ((rowsR c).emb (loc i))

/-- Device `p`'s block for `c`, written over slot `p` of device `c`, is what `gath` says. -/
theorem landed_eq (xb : XB F) (p c : Fin 16) (fd : (cc0_scratch0 : Ref sig .tc).ty.Contents (Elt F)) :
    ∀ i ∈ (slotM p).view.set,
      (slotM p).view.write (Elt F) fd ((srcM c).view.read (Elt F) (xb p)) Finset.univ i = gath xb c i := by
  intro i hi
  rw [slot_set, mem_rows] at hi
  have e : i = (slotM p).view.emb (loc i) := by
    conv_lhs => rw [← emb_blk_loc i, hi]
    rfl
  have h : (slotM p).view.write (Elt F) fd ((srcM c).view.read (Elt F) (xb p)) Finset.univ ((slotM p).view.emb (loc i))
      = (srcM c).view.read (Elt F) (xb p) (loc i) :=
    View.write_emb_of_mem (v := (slotM p).view) (Val := Elt F) fd ((srcM c).view.read (Elt F) (xb p)) (Finset.mem_univ (loc i))
  rw [← e] at h
  rw [h]
  show xb p ((rowsR c).emb (loc i)) = xb (blk i) ((rowsR c).emb (loc i))
  rw [hi]

/-! ## Cells -/

abbrev barS : Sem sig := sig.barrier 0 rfl
/-- The kernel's own semaphores: sixteen for sending, sixteen for receiving, one for the local copy. -/
abbrev osemD (k : Fin 33) : DmaSem sig := (⟨3 + k.val, by have := k.isLt; show 3 + k.val < 36; omega⟩ : Fin 36)
abbrev osem (k : Fin 33) : SemLoc sig := .dma (osemD k)
abbrev sIx (o : Fin 16) : Fin 33 := ⟨o.val, by have := o.isLt; omega⟩
abbrev rIx (k : Fin 16) : Fin 33 := ⟨16 + k.val, by have := k.isLt; omega⟩
abbrev lIx : Fin 33 := 32

abbrev barCell (c : Dev nD) : GSem nD τ sig := ((c : Thread nD τ), .reg barS)
abbrev ownCell (c : Dev nD) (k : Fin 33) : GSem nD τ sig := ((c : Thread nD τ), osem k)
abbrev sendCell (c : Dev nD) (o : Fin 16) : GSem nD τ sig := ownCell c (sIx o)
abbrev recvCell (c : Dev nD) (k : Fin 16) : GSem nD τ sig := ownCell c (rIx k)
abbrev localCell (c : Dev nD) : GSem nD τ sig := ownCell c lIx

/-! ## The resource algebra -/

abbrev UP : Type := UR sig nD τ
abbrev UT : Type := URounds (GSem nD τ sig) (Fin 16)
abbrev UU : Type := UP × UT

local notation "𝕄" => MT nD τ sig Unit (Elt F) ℕ UU ℕ

abbrev EP : Emb UP (MT nD τ sig Unit (Elt F) ℕ UU ℕ) := embL
abbrev ER : Emb UT (MT nD τ sig Unit (Elt F) ℕ UU ℕ) := embR

/-- Slot `k` of device `c` at `f`; block `k` of its input. -/
abbrev slotPts (c : Dev nD) (k : Fin 16) (f : (cc0_scratch0 : Ref sig .tc).ty.Contents (Elt F)) : sProp 𝕄 :=
  (slotM k).view.loc (c : Thread nD τ) ↦[(slotM k).view.set]{fullShare} f
abbrev srcPts (xb : XB F) (c : Dev nD) (k : Fin 16) : sProp 𝕄 :=
  (srcM k).view.loc (c : Thread nD τ) ↦[(srcM k).view.set]{fullShare} xb c

/-! ## The duties -/

/-- Paid by device `p` to `c`'s barrier cell: the slot of `p` that receives `c`'s rows, and that the cell it arrives on is open. -/
def barPay (c p : Dev nD) : sProp 𝕄 := iprop((∃ f, slotPts p c f) ∗ reached ER (recvCell p c) 0)
def recvPay (xb : XB F) (c : Dev nD) (k : Fin 16) : sProp 𝕄 := slotPts c k (gath xb c)
def sendPay (xb : XB F) (c : Dev nD) (o : Fin 16) : sProp 𝕄 := srcPts xb c (c + o)
def localPay (xb : XB F) (c : Dev nD) : sProp 𝕄 := iprop(slotPts c c (gath xb c) ∗ srcPts xb c c)

/-- What the duty on the kernel's own DMA cell with number `n` pays. -/
def dmaPay (xb : XB F) (c : Dev nD) (n : ℕ) : sProp 𝕄 :=
  if n < 19 then sendPay xb c (Fin.ofNat 16 (n - 3)) else if n < 35 then recvPay xb c (Fin.ofNat 16 (n - 19)) else localPay xb c

/-- The cells a copy is counted on: send cells `1 … 15`, the receive cells of the other devices, the local cell. -/
def isFlight (c : Dev nD) (n : ℕ) : Bool := (3 < n && n < 19) || (18 < n && n < 35 && n != 19 + c.val) || n == 35

def exRd (xb : XB F) : Rounds.Schedule (GSem nD τ sig) (Fin 16) 𝕄 where
  duties g r := if r = 0 ∧ g.1.2 = .tc then
      match g.2 with
      | .reg s => if s = barS then Finset.univ.erase g.1.1 else ∅
      | .dma s => if isFlight g.1.1 s.val then {0} else ∅
    else ∅
  unitless _ := False
  amount g _ _ := match g.2 with | .reg _ => 1 | .dma _ => NB
  payload g _ d := match g.2 with | .reg _ => barPay g.1.1 d | .dma s => dmaPay xb g.1.1 s.val
  amount_pos g _ _ _ := by
    obtain ⟨t, s | s⟩ := g
    · exact Nat.one_pos
    · exact NB_pos

instance exRd_payload_storable (xb : XB F) (g : GSem nD τ sig) (r : ℕ) (d : Fin 16) :
    BI.Storable (upEmb : UEmb _ 𝕄) ((exRd xb).payload g r d) := by
  obtain ⟨t, s | s⟩ := g
  · show BI.Storable upEmb (barPay t.1 d)
    unfold barPay; infer_instance
  · show BI.Storable upEmb (dmaPay xb t.1 s.val)
    unfold dmaPay sendPay recvPay localPay
    (repeat' split) <;> infer_instance

section Sched

variable (xb : XB F) (c : Dev nD)

theorem duties_bar : (exRd xb).duties (barCell c) 0 = Finset.univ.erase c := rfl
theorem duties_own (k : Fin 33) : (exRd xb).duties (ownCell c k) 0 = if isFlight c (3 + k.val) then {0} else ∅ := rfl
theorem flight_send (o : Fin 16) (ho : o ≠ 0) : isFlight c (3 + (sIx o).val) = true := by revert c o; decide
theorem flight_recv (k : Fin 16) (hk : k ≠ c) : isFlight c (3 + (rIx k).val) = true := by revert c k; decide
theorem flight_local : isFlight c (3 + (lIx).val) = true := by revert c; decide
theorem not_flight_send : isFlight c (3 + (sIx 0).val) = false := by revert c; decide
theorem not_flight_recv : isFlight c (3 + (rIx c).val) = false := by revert c; decide
theorem duties_send (o : Fin 16) (ho : o ≠ 0) : (exRd xb).duties (sendCell c o) 0 = {0} := by
  rw [sendCell, duties_own, flight_send c o ho, if_pos rfl]
theorem duties_recv (k : Fin 16) (hk : k ≠ c) : (exRd xb).duties (recvCell c k) 0 = {0} := by
  rw [recvCell, duties_own, flight_recv c k hk, if_pos rfl]
theorem duties_local : (exRd xb).duties (localCell c) 0 = {0} := by
  rw [localCell, duties_own, flight_local c, if_pos rfl]
theorem duties_later (g : GSem nD τ sig) : ∀ r, 1 ≤ r → (exRd xb).duties g r = ∅ :=
  fun r hr => by dsimp only [exRd]; rw [if_neg (fun h => by omega)]
theorem duties_send0 (r : ℕ) : (exRd xb).duties (sendCell c 0) r = ∅ := by
  rcases Nat.eq_zero_or_pos r with rfl | h
  · rw [sendCell, duties_own, not_flight_send c]; rfl
  · exact duties_later xb _ r h
theorem duties_recv0 (r : ℕ) : (exRd xb).duties (recvCell c c) r = ∅ := by
  rcases Nat.eq_zero_or_pos r with rfl | h
  · rw [recvCell, duties_own, not_flight_recv c]; rfl
  · exact duties_later xb _ r h

theorem amount_bar (d : Fin 16) : (exRd xb).amount (barCell c) 0 d = 1 := rfl
theorem amount_own (k : Fin 33) (d : Fin 16) : (exRd xb).amount (ownCell c k) 0 d = NB := rfl
theorem payload_bar (d : Fin 16) : (exRd xb).payload (barCell c) 0 d = barPay c d := rfl
theorem payload_own (k : Fin 33) (d : Fin 16) : (exRd xb).payload (ownCell c k) 0 d = dmaPay xb c (3 + k.val) := rfl
theorem ofNat_sub (o : Fin 16) (n : ℕ) : Fin.ofNat 16 (n + o.val - n) = o := by
  apply Fin.ext; show (n + o.val - n) % 16 = o.val; rw [Nat.add_sub_cancel_left]; exact Nat.mod_eq_of_lt o.isLt
theorem payload_send (o d : Fin 16) : (exRd xb).payload (sendCell c o) 0 d = srcPts xb c (c + o) := by
  rw [sendCell, payload_own]
  have h : 3 + (sIx o).val < 19 := by have := o.isLt; show 3 + o.val < 19; omega
  unfold dmaPay; rw [if_pos h, show Fin.ofNat 16 (3 + (sIx o).val - 3) = o from ofNat_sub o 3]; rfl
theorem payload_recv (k d : Fin 16) : (exRd xb).payload (recvCell c k) 0 d = slotPts c k (gath xb c) := by
  rw [recvCell, payload_own]
  have h : ¬ 3 + (rIx k).val < 19 := by show ¬ 3 + (16 + k.val) < 19; omega
  have h' : 3 + (rIx k).val < 35 := by have := k.isLt; show 3 + (16 + k.val) < 35; omega
  have e : 3 + (rIx k).val = 19 + k.val := by show 3 + (16 + k.val) = _; omega
  unfold dmaPay; rw [if_neg h, if_pos h', e, ofNat_sub k 19]; rfl
theorem payload_local (d : Fin 16) : (exRd xb).payload (localCell c) 0 d = iprop(slotPts c c (gath xb c) ∗ srcPts xb c c) := by
  rw [localCell, payload_own]
  unfold dmaPay; rw [if_neg (by decide), if_neg (by decide)]; rfl

theorem expect_bar : (exRd xb).expect (barCell c) 0 = 15 := by
  unfold Schedule.expect Schedule.amountOf
  rw [duties_bar, Finset.sum_congr rfl (fun d _ => amount_bar xb c d), Finset.sum_const, Finset.card_erase_of_mem (Finset.mem_univ _)]
  rfl
theorem expect_send (o : Fin 16) (ho : o ≠ 0) : (exRd xb).expect (sendCell c o) 0 = NB := by
  unfold Schedule.expect Schedule.amountOf; rw [duties_send xb c o ho, Finset.sum_singleton]; rfl
theorem expect_recv (k : Fin 16) (hk : k ≠ c) : (exRd xb).expect (recvCell c k) 0 = NB := by
  unfold Schedule.expect Schedule.amountOf; rw [duties_recv xb c k hk, Finset.sum_singleton]; rfl
theorem expect_local : (exRd xb).expect (localCell c) 0 = NB := by
  unfold Schedule.expect Schedule.amountOf; rw [duties_local xb c, Finset.sum_singleton]; rfl

theorem rest_bar : bigSep ((exRd xb).duties (barCell c) 0 \ ∅) (fun d => (exRd xb).payload (barCell c) 0 d)
    = bigSep (Finset.univ.erase c) (fun p => barPay c p) := by
  rw [Finset.sdiff_empty, duties_bar]; rfl
theorem rest_send (o : Fin 16) (ho : o ≠ 0) :
    bigSep ((exRd xb).duties (sendCell c o) 0 \ ∅) (fun d => (exRd xb).payload (sendCell c o) 0 d) = srcPts xb c (c + o) := by
  rw [Finset.sdiff_empty, duties_send xb c o ho, bigSep_singleton, payload_send]
theorem rest_recv (k : Fin 16) (hk : k ≠ c) :
    bigSep ((exRd xb).duties (recvCell c k) 0 \ ∅) (fun d => (exRd xb).payload (recvCell c k) 0 d) = slotPts c k (gath xb c) := by
  rw [Finset.sdiff_empty, duties_recv xb c k hk, bigSep_singleton, payload_recv]
theorem rest_local :
    bigSep ((exRd xb).duties (localCell c) 0 \ ∅) (fun d => (exRd xb).payload (localCell c) 0 d)
      = iprop(slotPts c c (gath xb c) ∗ srcPts xb c c) := by
  rw [Finset.sdiff_empty, duties_local xb c, bigSep_singleton, payload_local]

end Sched

end Cert.KernelIdeal.Exch

end
-- ==== Proof.States.lean ====
/- What a device holds and owes between the operations of the exchange, and the order of the waits. -/
module

public import proofs.«01_k».proof.Proof.Cells

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Levels and what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of device `c`'s DMA cell number `n`: a receive cell stands the higher the further its sender is behind. -/
def dmaLv (c : Dev nD) (n : ℕ) : ℕ := if 18 < n ∧ n < 35 then 2 + (c - Fin.ofNat 16 (n - 19)).val else 0
/-- Barrier cells at one, receive cells above, the rest at zero. -/
def lv (g : GSem nD τ sig) (_ : Unit) : ℕ := match g.2 with | .reg _ => 1 | .dma s => dmaLv g.1.1 s.val

theorem lv_recv (c k : Dev nD) : lv (recvCell c k) () = 2 + (c - k).val := by
  have h : 18 < 3 + (rIx k).val ∧ 3 + (rIx k).val < 35 := by
    have : k.val < 16 := k.isLt
    constructor
    · show 18 < 3 + (16 + k.val); omega
    · show 3 + (16 + k.val) < 35; omega
  have e : 3 + (rIx k).val = 19 + k.val := by show 3 + (16 + k.val) = _; omega
  show dmaLv c (3 + (rIx k).val) = _
  unfold dmaLv; rw [if_pos h, e, ofNat_sub k 19]
theorem lv_send (c o : Dev nD) : lv (sendCell c o) () = 0 := by
  have h : ¬ (18 < 3 + (sIx o).val ∧ 3 + (sIx o).val < 35) := by
    have : o.val < 16 := o.isLt; rintro ⟨h, -⟩; have h' : 18 < 3 + o.val := h; omega
  show dmaLv c (3 + (sIx o).val) = _
  unfold dmaLv; rw [if_neg h]
theorem lv_local (c : Dev nD) : lv (localCell c) () = 0 := rfl
theorem lv_bar (c : Dev nD) : lv (barCell c) () = 1 := rfl

theorem add_sub_self (c o : Dev nD) : (c + o) - c = o := by revert c o; decide
theorem sub_add_self (c o : Dev nD) : c - o + o = c := by revert c o; decide
theorem sub_sub_self' (c o : Dev nD) : c - (c - o) = o := by revert c o; decide
theorem add_sub_self' (c k : Dev nD) : c + (k - c) = k := by revert c k; decide
theorem add_ne (c o : Dev nD) (ho : o ≠ 0) : c + o ≠ c := by revert c o; decide
theorem ne_add (c o : Dev nD) (ho : o ≠ 0) : c ≠ c + o := fun h => add_ne c o ho h.symm
theorem sub_ne (c o : Dev nD) (ho : o ≠ 0) : c - o ≠ c := by revert c o; decide

/-- The copies still to be started, from offset `b` on. -/
def Ow (c : Dev nD) (b : ℕ) : CellTallies nD τ sig Unit :=
  ∑ o ∈ Finset.univ.filter (fun o : Fin 16 => o ≠ 0 ∧ b ≤ o.val), tallyAt (recvCell (c + o) c) () NB
/-- The signals still to be given. -/
def BarOw (c : Dev nD) (b : ℕ) : CellTallies nD τ sig Unit :=
  ∑ o ∈ Finset.univ.filter (fun o : Fin 16 => o ≠ 0 ∧ b ≤ o.val), tallyAt (barCell (c + o)) () 1

theorem filter_succ (o : Fin 16) (ho : o ≠ 0) :
    Finset.univ.filter (fun p : Fin 16 => p ≠ 0 ∧ o.val ≤ p.val)
      = insert o (Finset.univ.filter (fun p : Fin 16 => p ≠ 0 ∧ o.val + 1 ≤ p.val)) := by
  revert o; decide
theorem not_mem_succ (o : Fin 16) : o ∉ Finset.univ.filter (fun p : Fin 16 => p ≠ 0 ∧ o.val + 1 ≤ p.val) := by
  revert o; decide
theorem filter_end (b : ℕ) (hb : 16 ≤ b) : Finset.univ.filter (fun p : Fin 16 => p ≠ 0 ∧ b ≤ p.val) = ∅ := by
  ext p; have := p.isLt
  simp only [Finset.mem_filter, Finset.mem_univ, true_and, Finset.notMem_empty, iff_false, not_and]; intro _; omega

theorem Ow_succ (c o : Dev nD) (ho : o ≠ 0) : Ow c o.val = Ow c (o.val + 1) + tallyAt (recvCell (c + o) c) () NB := by
  unfold Ow; rw [filter_succ o ho, Finset.sum_insert (not_mem_succ o), add_comm]
theorem BarOw_succ (c o : Dev nD) (ho : o ≠ 0) : BarOw c o.val = BarOw c (o.val + 1) + tallyAt (barCell (c + o)) () 1 := by
  unfold BarOw; rw [filter_succ o ho, Finset.sum_insert (not_mem_succ o), add_comm]
theorem Ow_end (c : Dev nD) (b : ℕ) (hb : 16 ≤ b) : Ow c b = 0 := by unfold Ow; rw [filter_end b hb, Finset.sum_empty]
theorem BarOw_end (c : Dev nD) (b : ℕ) (hb : 16 ≤ b) : BarOw c b = 0 := by unfold BarOw; rw [filter_end b hb, Finset.sum_empty]

theorem sum_pos {s : Finset (Fin 16)} {T : Fin 16 → GSem nD τ sig} {k : ℕ} {g : GSem nD τ sig} {u : Unit}
    (h : 0 < (∑ o ∈ s, (tallyAt (T o) () k : CellTallies nD τ sig Unit)) g u) : ∃ o ∈ s, g = T o := by
  induction s using Finset.induction_on with
  | empty => exact absurd h (Nat.lt_irrefl 0)
  | insert o s ho ih =>
    rw [Finset.sum_insert ho, Pi.add_apply, Finsupp.add_apply, tallyAt_apply] at h
    by_cases hg : g = T o
    · exact ⟨o, Finset.mem_insert_self _ _, hg⟩
    · rw [if_neg (fun hh => hg hh.1), Nat.zero_add] at h
      obtain ⟨o', ho', e⟩ := ih h
      exact ⟨o', Finset.mem_insert_of_mem ho', e⟩

theorem Ow_pos {c : Dev nD} {b : ℕ} {g : GSem nD τ sig} {u : Unit} (h : 0 < Ow c b g u) :
    u ∈ L g ∧ 2 + b ≤ lv g u := by
  obtain ⟨o, ho, rfl⟩ := sum_pos h
  refine ⟨by rw [L_tc]; exact Finset.mem_singleton_self _, ?_⟩
  cases u; rw [lv_recv, add_sub_self]
  have := (Finset.mem_filter.mp ho).2.2; omega
theorem BarOw_pos {c : Dev nD} {b : ℕ} {g : GSem nD τ sig} {u : Unit} (h : 0 < BarOw c b g u) :
    u ∈ L g ∧ 1 ≤ lv g u := by
  obtain ⟨o, ho, rfl⟩ := sum_pos h
  refine ⟨by rw [L_tc]; exact Finset.mem_singleton_self _, ?_⟩
  cases u; rw [lv_bar]

abbrev O₀ (c : Dev nD) : CellTallies nD τ sig Unit := Ow c 1 + BarOw c 1
/-- What device `c` owes before grid point `t`. -/
def owedAt (c : Dev nD) (t : ℕ) : CellTallies nD τ sig Unit := if t = 0 then O₀ c else Ow c (t + 3)

theorem owedAt_pos {c : Dev nD} {t : ℕ} {g : GSem nD τ sig} {u : Unit} (h : 0 < owedAt c t g u) : u ∈ L g ∧ 0 < lv g u := by
  unfold owedAt at h
  split at h
  · rw [O₀, Pi.add_apply, Finsupp.add_apply] at h
    rcases Nat.eq_zero_or_pos (Ow c 1 g u) with h0 | h1
    · rw [h0, Nat.zero_add] at h
      exact ⟨(BarOw_pos h).1, (BarOw_pos h).2⟩
    · exact ⟨(Ow_pos h1).1, by have := (Ow_pos h1).2; omega⟩
  · exact ⟨(Ow_pos h).1, by have := (Ow_pos h).2; omega⟩

/-- A wait on a cell below `2 + b`, with only the copies from `b` on owed. -/
theorem mayWait_Ow (c : Dev nD) (sm : SemLoc sig) (b : ℕ) (h : lv ((c : Thread nD τ), sm) () < 2 + b) :
    (levAts L lv : sProp 𝕄) ⊢ MayWait (c : Thread nD τ) sm () (Ow c b) :=
  MayOwe.of_cut (L := L) (lev := lv) (lv ((c : Thread nD τ), sm) ())
    (fun p hp => by rw [Finset.mem_singleton.mp hp, L_tc]; exact Finset.mem_singleton_self _)
    (fun g u hg => (Ow_pos hg).1)
    (fun p hp => by rw [Finset.mem_singleton.mp hp])
    (fun g u hg => by have := (Ow_pos hg).2; omega)

/-! ## The cells of the launch -/

def barEmb : Dev nD ↪ GSem nD τ sig := ⟨fun c => barCell c, fun c c' h => congrArg (fun g : GSem nD τ sig => g.1.1) h⟩
theorem osem_inj : Function.Injective osem := fun k k' h => by
  have h1 : osemD k = osemD k' := SemLoc.dma.inj h
  have h2 : 3 + k.val = 3 + k'.val := congrArg Fin.val h1
  exact Fin.ext (by omega)
def ownEmb : Dev nD × Fin 33 ↪ GSem nD τ sig :=
  ⟨fun x => ownCell x.1 x.2, fun x y h =>
    Prod.ext (congrArg (fun g : GSem nD τ sig => g.1.1) h) (osem_inj (congrArg Prod.snd h))⟩
def barCells : Finset (GSem nD τ sig) := Finset.univ.map barEmb
def ownCells : Finset (GSem nD τ sig) := Finset.univ.map ownEmb
theorem disjoint_cells : Disjoint barCells ownCells := by
  rw [Finset.disjoint_left]
  rintro g h₁ h₂
  obtain ⟨c, -, rfl⟩ := Finset.mem_map.mp h₁
  obtain ⟨ck, -, h⟩ := Finset.mem_map.mp h₂
  exact nomatch (congrArg Prod.snd h : osem ck.2 = SemLoc.reg barS)
theorem bar_mem (c : Dev nD) : barCell c ∈ (barCells ∪ ownCells : Finset (GSem nD τ sig)) :=
  Finset.mem_union_left _ (Finset.mem_map_of_mem barEmb (Finset.mem_univ c))
theorem own_mem (c : Dev nD) (k : Fin 33) : ownCell c k ∈ (barCells ∪ ownCells : Finset (GSem nD τ sig)) :=
  Finset.mem_union_right _ (Finset.mem_map_of_mem ownEmb (Finset.mem_univ (c, k)))

/-- Every cell's invariant. -/
def Invs (xb : XB F) (κ : GSem nD τ sig → ℕ) : sProp 𝕄 :=
  bigSep (barCells ∪ ownCells) fun g => cellInv ER (exRd xb) (κ g) g
instance Invs_persistent (xb : XB F) (κ : GSem nD τ sig → ℕ) : BI.Persistent (Invs xb κ) := by unfold Invs; infer_instance
theorem inv_bar (xb : XB F) (κ : GSem nD τ sig → ℕ) (c : Dev nD) :
    Invs xb κ ⊢ cellInv ER (exRd xb) (κ (barCell c)) (barCell c) := by
  unfold Invs; exact bigSep_elim (bar_mem c)
theorem inv_own (xb : XB F) (κ : GSem nD τ sig → ℕ) (c : Dev nD) (k : Fin 33) :
    Invs xb κ ⊢ cellInv ER (exRd xb) (κ (ownCell c k)) (ownCell c k) := by
  unfold Invs; exact bigSep_elim (own_mem c k)

/-! ## Families -/

abbrev fam (P : Fin 16 → sProp 𝕄) : sProp 𝕄 := bigSep Finset.univ P
theorem fam_at (P : Fin 16 → sProp 𝕄) (o : Fin 16) : fam P = iprop(P o ∗ bigSep (Finset.univ.erase o) P) := bigSep_univ_at P o
theorem fam_put (P P' : Fin 16 → sProp 𝕄) (o : Fin 16) (h : ∀ i, i ≠ o → P i = P' i) :
    iprop(P' o ∗ bigSep (Finset.univ.erase o) P) = fam P' := by
  rw [fam_at P' o, bigSep_congr (s := Finset.univ.erase o) (Ψ := P') fun i hi => h i (Finset.ne_of_mem_erase hi)]

/-- The signal to the device at offset `o` not yet given. -/
def sigSt (c : Dev nD) (b : ℕ) (o : Fin 16) : sProp 𝕄 :=
  if o ≠ 0 ∧ b ≤ o.val then
    iprop(dutyTok ER (barCell (c + o)) 0 c ∗ (∃ f, slotPts c (c + o) f) ∗ reached ER (barCell (c + o)) 0 ∗ reached ER (recvCell c (c + o)) 0)
  else iprop(emp)

/-- The copy to the device at offset `o`, with nothing of the peer's in hand: ready before the barrier. -/
def preSt (xb : XB F) (c : Dev nD) (o : Fin 16) : sProp 𝕄 :=
  if o = 0 then atPos ER (sendCell c o) 0 ∅ 0
  else iprop(srcPts xb c (c + o) ∗ dutyTok ER (sendCell c o) 0 0 ∗ reached ER (sendCell c o) 0
    ∗ dutyTok ER (recvCell (c + o) c) 0 0 ∗ atPos ER (sendCell c o) 0 ∅ 0)

/-- The copy to the device at offset `o`: done below `a`, on its way below `b`, ready from there. -/
def sendSt (xb : XB F) (c : Dev nD) (a b : ℕ) (o : Fin 16) : sProp 𝕄 :=
  if o = 0 then atPos ER (sendCell c o) 0 ∅ 0
  else if o.val < a then iprop(srcPts xb c (c + o) ∗ atPos ER (sendCell c o) 1 ∅ 0)
  else if o.val < b then iprop(cred (tallyAt (sendCell c o) () NB) ∗ atPos ER (sendCell c o) 0 ∅ 0)
  else iprop((srcPts xb c (c + o) ∗ dutyTok ER (sendCell c o) 0 0 ∗ reached ER (sendCell c o) 0
    ∗ dutyTok ER (recvCell (c + o) c) 0 0 ∗ atPos ER (sendCell c o) 0 ∅ 0) ∗ barPay (c) (c + o))

/-- The rows from the device `o` behind: arrived and waited for below `t`. -/
def recvSt (xb : XB F) (c : Dev nD) (t : ℕ) (o : Fin 16) : sProp 𝕄 :=
  if o = 0 then atPos ER (recvCell c (c - o)) 0 ∅ 0
  else if o.val < t then iprop(slotPts c (c - o) (gath xb c) ∗ atPos ER (recvCell c (c - o)) 1 ∅ 0)
  else iprop(cred (tallyAt (recvCell c (c - o)) () NB) ∗ atPos ER (recvCell c (c - o)) 0 ∅ 0)

/-- The own rows in the own slot, their source back, the local cell done. -/
def localSt (xb : XB F) (c : Dev nD) : sProp 𝕄 :=
  iprop(slotPts c c (gath xb c) ∗ srcPts xb c c ∗ atPos ER (localCell c) 1 ∅ 0)

/-- What is owed, at some record of waits. -/
def owe (c : Dev nD) (O : CellTallies nD τ sig Unit) : sProp 𝕄 := iprop(∃ W, owes (c : Thread nD τ) O W)

theorem sendSt_ready (xb : XB F) (c : Dev nD) (a : ℕ) (o : Fin 16) (ho : o ≠ 0) (ha : a ≤ o.val) :
    sendSt xb c a o.val o = iprop((srcPts xb c (c + o) ∗ dutyTok ER (sendCell c o) 0 0 ∗ reached ER (sendCell c o) 0
    ∗ dutyTok ER (recvCell (c + o) c) 0 0 ∗ atPos ER (sendCell c o) 0 ∅ 0) ∗ barPay (c) (c + o)) := by
  unfold sendSt; rw [if_neg ho, if_neg (by omega), if_neg (by omega)]
theorem sendSt_flight (xb : XB F) (c : Dev nD) (a b : ℕ) (o : Fin 16) (ho : o ≠ 0) (ha : a ≤ o.val) (hb : o.val < b) :
    sendSt xb c a b o = iprop(cred (tallyAt (sendCell c o) () NB) ∗ atPos ER (sendCell c o) 0 ∅ 0) := by
  unfold sendSt; rw [if_neg ho, if_neg (by omega), if_pos hb]
theorem sendSt_done (xb : XB F) (c : Dev nD) (a b : ℕ) (o : Fin 16) (ho : o ≠ 0) (ha : o.val < a) :
    sendSt xb c a b o = iprop(srcPts xb c (c + o) ∗ atPos ER (sendCell c o) 1 ∅ 0) := by
  unfold sendSt; rw [if_neg ho, if_pos ha]
theorem ne_val {i o : Fin 16} (h : i ≠ o) : i.val ≠ o.val := fun e => h (Fin.ext e)
theorem sendSt_issue (xb : XB F) (c : Dev nD) (a : ℕ) (o i : Fin 16) (h : i ≠ o) : sendSt xb c a o.val i = sendSt xb c a (o.val + 1) i := by
  have := ne_val h
  unfold sendSt
  by_cases h1 : i.val < o.val
  · rw [if_pos h1, if_pos (show i.val < o.val + 1 by omega)]
  · rw [if_neg h1, if_neg (show ¬ i.val < o.val + 1 by omega)]
theorem sendSt_wait (xb : XB F) (c : Dev nD) (b : ℕ) (o i : Fin 16) (h : i ≠ o) : sendSt xb c o.val b i = sendSt xb c (o.val + 1) b i := by
  have := ne_val h
  unfold sendSt
  by_cases h1 : i.val < o.val
  · rw [if_pos h1, if_pos (show i.val < o.val + 1 by omega)]
  · rw [if_neg h1, if_neg (show ¬ i.val < o.val + 1 by omega)]
theorem sendSt_past (xb : XB F) (c : Dev nD) (a b b' : ℕ) (hb : 16 ≤ b) (hb' : 16 ≤ b') (i : Fin 16) : sendSt xb c a b i = sendSt xb c a b' i := by
  have := i.isLt
  unfold sendSt
  rw [if_pos (show i.val < b by omega), if_pos (show i.val < b' by omega)]

theorem recvSt_due (xb : XB F) (c : Dev nD) (o : Fin 16) (ho : o ≠ 0) :
    recvSt xb c o.val o = iprop(cred (tallyAt (recvCell c (c - o)) () NB) ∗ atPos ER (recvCell c (c - o)) 0 ∅ 0) := by
  unfold recvSt; rw [if_neg ho, if_neg (by omega)]
theorem recvSt_done (xb : XB F) (c : Dev nD) (t : ℕ) (o : Fin 16) (ho : o ≠ 0) (h : o.val < t) :
    recvSt xb c t o = iprop(slotPts c (c - o) (gath xb c) ∗ atPos ER (recvCell c (c - o)) 1 ∅ 0) := by
  unfold recvSt; rw [if_neg ho, if_pos h]
theorem recvSt_wait (xb : XB F) (c : Dev nD) (o i : Fin 16) (h : i ≠ o) : recvSt xb c o.val i = recvSt xb c (o.val + 1) i := by
  have := ne_val h
  unfold recvSt
  by_cases h1 : i.val < o.val
  · rw [if_pos h1, if_pos (show i.val < o.val + 1 by omega)]
  · rw [if_neg h1, if_neg (show ¬ i.val < o.val + 1 by omega)]

theorem sigSt_due (c : Dev nD) (o : Fin 16) (ho : o ≠ 0) : (sigSt c o.val o : sProp 𝕄)
    = iprop(dutyTok ER (barCell (c + o)) 0 c ∗ (∃ f, slotPts c (c + o) f) ∗ reached ER (barCell (c + o)) 0 ∗ reached ER (recvCell c (c + o)) 0) := by
  unfold sigSt; rw [if_pos ⟨ho, le_refl _⟩]
theorem sigSt_given (c : Dev nD) (b : ℕ) (o : Fin 16) (h : o.val < b) : (sigSt c b o : sProp 𝕄) = iprop(emp) := by
  unfold sigSt; rw [if_neg (fun hh => by have := hh.2; omega)]
theorem sigSt_step (c : Dev nD) (o i : Fin 16) (h : i ≠ o) : (sigSt c o.val i : sProp 𝕄) = sigSt c (o.val + 1) i := by
  have := ne_val h
  unfold sigSt
  by_cases h1 : i ≠ 0 ∧ o.val ≤ i.val
  · rw [if_pos h1, if_pos ⟨h1.1, by have := h1.2; omega⟩]
  · rw [if_neg h1, if_neg (fun h2 => h1 ⟨h2.1, by have := h2.2; omega⟩)]

end Cert.KernelIdeal.Exch

end
-- ==== Proof.Steps.lean ====
/- One rule for each kind of operation of the exchange: the signal, the barrier's wait, the copies and their waits. -/
module

public import proofs.«01_k».proof.Proof.States

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a stretch of device `c`'s kernel. -/
abbrev wpk {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable (xb : XB F) (κ : GSem nD τ sig → ℕ) (c : Dev nD)

/-! ## The barrier -/

theorem step_sig (o : Fin 16) (ho : o ≠ 0) (d : Dev nD) (hd : d = c + o) (Q : PUnit → sProp 𝕄) :
    iprop(Invs xb κ ∗ fam (sigSt c o.val) ∗ owe c (Ow c 1 + BarOw c o.val)
        ∗ ((fam (sigSt c (o.val + 1)) ∗ owe c (Ow c 1 + BarOw c (o.val + 1))) -∗ Q ⟨⟩))
      ⊢ wpk c (semSignalWord d barS 1#32) Q := by
  subst hd
  show _ ⊢ wp frame (wpE (defs₀ (F := F)) 𝒱₀ (c : Thread nD τ) none) Set.univ
    (.op (.semSignal ((c + o : Dev nD) : Thread nD τ) barS ((1 : ℕ) : ℤ)) .ret) Q
  rw [fam_at (sigSt c o.val) o, sigSt_due c o ho]
  unfold owe
  iintro ⟨#HI, ⟨⟨Htok, Hs, #HrB, #HrR⟩, Hrest⟩, ⟨%W, HO⟩, Hk⟩
  iapply (Rounds.wp_signal 𝒱₀ ER (exRd xb) (c : Thread nD τ) none (dst := ((c + o : Dev nD) : Thread nD τ)) (sem := barS) (r := 0) (d := c)
      (κ := κ (barCell (c + o)))
      (by rw [duties_bar]; exact Finset.mem_erase.mpr ⟨ne_add c o ho, Finset.mem_univ _⟩) (amount_bar xb (c + o) c) ()
      (O₀ := Ow c 1 + BarOw c o.val) (Ow c 1 + BarOw c (o.val + 1)) (by rw [BarOw_succ c o ho, add_assoc]))
    $$ [HO Htok Hs]
  · isplitr; · iapply (inv_bar xb κ (c + o)); iexact HI
    isplitl [HO]; · iexact HO
    isplitl [Htok]; · iexact Htok
    isplitl [Hs]
    · rw [payload_bar]; unfold barPay
      isplitl [Hs]; · iexact Hs
      iexact HrR
    · iexact HrB
  iintro HO
  rw [wp_ret]
  imodintro
  iapply Hk
  isplitl [Hrest]
  · iapply (Entails.of_eq (fam_put (sigSt c o.val) (sigSt c (o.val + 1)) o (fun i hi => sigSt_step c o i hi)))
    rw [sigSt_given c (o.val + 1) o (Nat.lt_succ_self _)]
    isplitr
    · iempintro
    · iexact Hrest
  · iexists W; iexact HO

theorem mayWait_bar : (levAts L lv : sProp 𝕄) ⊢ MayWait (c : Thread nD τ) (.reg barS) () (Ow c 1) :=
  mayWait_Ow c (.reg barS) 1 (by rw [lv_bar]; decide)

/-- The barrier's wait: the slots of the other devices come with it. -/
theorem step_bar (Q : PUnit → sProp 𝕄) :
    iprop(Invs xb κ ∗ levAts L lv ∗ cred (tallyAt (barCell c) () 15) ∗ atPos ER (barCell c) 0 ∅ 0 ∗ owe c (Ow c 1)
        ∗ ((atPos ER (barCell c) 1 ∅ 0 ∗ bigSep (Finset.univ.erase c) (fun p => barPay c p) ∗ owe c (Ow c 1)) -∗ Q ⟨⟩))
      ⊢ wpk c (semWaitWord barS 15#32) Q := by
  show _ ⊢ wp frame (wpE (defs₀ (F := F)) 𝒱₀ (c : Thread nD τ) none) Set.univ
    (.op (.semWait barS ((15 : ℕ) : ℤ)) .ret) Q
  unfold owe
  iintro ⟨#HI, #Hlev, HcB, HatB, ⟨%W, HO⟩, Hk⟩
  iapply (Rounds.wp_wait_rest_token 𝒱₀ ER (exRd xb) (c : Thread nD τ) none (κ := κ (barCell c))
      (wpE_semWait_eq 𝒱₀ (c : Thread nD τ) none Set.univ) (Set.mem_univ _) () (O := Ow c 1) (W := W) (R := 0) (m := 0) (T := ∅)
      ((Nat.zero_add 15).trans (expect_bar xb c).symm)) $$ [HcB HO HatB]
  · isplitr; · iapply (inv_bar xb κ c); iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar xb c)) $$ Hpay
  rw [wp_ret]
  imodintro
  iapply Hk
  isplitl [HatB]; · iexact HatB
  isplitl [Hp]; · iexact Hp
  iexists _; iexact HO

/-! ## Copies -/

theorem slice_slot (k : Fin 16) {off : Fin 2 → ℕ} (h : off = ![512 * k.val, 0]) (inb : ∀ a, off a + S512x512.size a ≤ S8192x512.size a) :
    (commM.slice (Rect.unit (s := S8192x512) off S512x512.size inb) (fun _ => rfl) : Memref sig .tc .vmem S512x512 .bf16) = slotM k := by
  subst h; rfl
theorem slice_src (k : Fin 16) {off : Fin 2 → ℕ} (h : off = ![512 * k.val, 0]) (inb : ∀ a, off a + S512x512.size a ≤ S8192x512.size a) :
    (xM.slice (Rect.unit (s := S8192x512) off S512x512.size inb) (fun _ => rfl) : Memref sig .tc .hbm S512x512 .bf16) = srcM k := by
  subst h; rfl

/-- The remote copy to the device at offset `o`. -/
theorem step_send (a : ℕ) (o : Fin 16) (ho : o ≠ 0) (ha : a ≤ o.val) (d : Dev nD) (hd : d = c + o)
    (src : Memref sig .tc .hbm S512x512 .bf16) (hsrcM : src = srcM (c + o))
    (dst : Memref sig .tc .vmem S512x512 .bf16) (hdstM : dst = slotM c)
    (sS sR : DmaSem sig) (hS : sS = osemD (sIx o)) (hR : sR = osemD (rIx c))
    {hsc : dst.view.ref.isScScratch = false} {hsrc : src.view.WordExact} {hdst : dst.view.WordExact}
    {hsem : DmaTarget.Typed .hbm (SemLoc.dma sR) (.remote (d : Thread nD τ) dst (.dma sS) hsc)} (Q : PUnit → sProp 𝕄) :
    iprop(Invs xb κ ∗ fam (sendSt xb c a o.val) ∗ owe c (Ow c o.val)
        ∗ ((fam (sendSt xb c a (o.val + 1)) ∗ owe c (Ow c (o.val + 1))) -∗ Q ⟨⟩))
      ⊢ wpk c (Prog.lift (.enqueueDma src (.remote (d : Thread nD τ) dst (.dma sS) hsc) (.dma sR) hsrc hdst hsem)) Q := by
  subst hd; subst hsrcM; subst hdstM; subst hS; subst hR
  show _ ⊢ wp frame (wpE (defs₀ (F := F)) 𝒱₀ (c : Thread nD τ) none) Set.univ
    (.op (.enqueueDma (srcM (c + o)) (.remote ((c + o : Dev nD) : Thread nD τ) (slotM c) (.dma (osemD (sIx o))) hsc) (.dma (osemD (rIx c))) hsrc hdst hsem) .ret) Q
  rw [fam_at (sendSt xb c a o.val) o, sendSt_ready xb c a o ho ha]
  unfold owe barPay
  iintro ⟨#HI, ⟨⟨⟨Hx, HtS, #HrS, HtR, HatS⟩, ⟨%fd, Hs⟩, #HrR⟩, Hrest⟩, ⟨%W, HO⟩, Hk⟩
  iapply (Rounds.wp_send_pointsTo 𝒱₀ ER (exRd xb) (c : Thread nD τ) none (c' := ((c + o : Dev nD) : Thread nD τ)) (src := srcM (c + o)) (dst := slotM c)
      (sS := osem (sIx o)) (sem := osem (rIx c)) (q := fullShare) (fs := xb c) (κ₁ := κ (sendCell c o)) (κ₂ := κ (recvCell (c + o) c))
      (r₁ := 0) (r₂ := 0) (d₁ := 0) (d₂ := 0) (fd := fd)
      (by rw [duties_send xb c o ho]; exact Finset.mem_singleton_self _)
      (by rw [duties_recv xb (c + o) c (ne_add c o ho)]; exact Finset.mem_singleton_self _)
      () () NB rfl (amount_own xb c (sIx o) 0) (amount_own xb (c + o) (rIx c) 0) (Ow c (o.val + 1)) (Ow_succ c o ho) (W := W)
      (by rw [payload_send])
      (by rw [payload_recv]; exact Entails.of_eq (pointsTo_congr (landed_eq xb c (c + o) fd)))) $$ [Hx Hs HO HtS HtR]
  · isplitr; · iapply (inv_own xb κ c (sIx o)); iexact HI
    isplitr; · iapply (inv_own xb κ (c + o) (rIx c)); iexact HI
    isplitl [Hx]; · iexact Hx
    isplitl [Hs]; · iexact Hs
    isplitl [HO]; · iexact HO
    isplitl [HtS]; · iexact HtS
    isplitr; · iexact HrS
    isplitl [HtR]; · iexact HtR
    iexact HrR
  iintro ⟨HcS, HO⟩
  rw [wp_ret]
  imodintro
  iapply Hk
  isplitl [Hrest HcS HatS]
  · iapply (Entails.of_eq (fam_put (sendSt xb c a o.val) (sendSt xb c a (o.val + 1)) o (fun i hi => sendSt_issue xb c a o i hi)))
    rw [sendSt_flight xb c a (o.val + 1) o ho ha (Nat.lt_succ_self _)]
    isplitr [Hrest]
    · isplitl [HcS] <;> iassumption
    · iexact Hrest
  · iexists W; iexact HO

/-- The wait for the copy at offset `o` to have left: the rows sent come back. -/
theorem step_wait_send (b : ℕ) (o : Fin 16) (ho : o ≠ 0) (hb : o.val < b) (O : ℕ)
    (src : Memref sig .tc .vmem S512x512 .bf16) (k : Fin 16)
    (dst : Memref sig .tc .hbm S512x512 .bf16) (hdstM : dst = srcM k)
    (sS : DmaSem sig) (hS : sS = osemD (sIx o))
    {hsrc : src.view.WordExact} {hdst : dst.view.WordExact} (Q : PUnit → sProp 𝕄) :
    iprop(Invs xb κ ∗ levAts L lv ∗ fam (sendSt xb c o.val b) ∗ owe c (Ow c O)
        ∗ ((fam (sendSt xb c (o.val + 1) b) ∗ owe c (Ow c O)) -∗ Q ⟨⟩))
      ⊢ wpk c (Prog.lift (.waitDma2 sS src dst hsrc hdst)) Q := by
  subst hdstM; subst hS
  show _ ⊢ wp frame (wpE (defs₀ (F := F)) 𝒱₀ (c : Thread nD τ) none) Set.univ (.op (.waitDma2 (osemD (sIx o)) src (srcM k) hsrc hdst) .ret) Q
  rw [fam_at (sendSt xb c o.val b) o, sendSt_flight xb c o.val b o ho (le_refl _) hb]
  unfold owe
  iintro ⟨#HI, #Hlev, ⟨⟨Hc, Hat⟩, Hrest⟩, ⟨%W, HO⟩, Hk⟩
  iapply (Rounds.wp_wait_rest_token 𝒱₀ ER (exRd xb) (c : Thread nD τ) none (κ := κ (sendCell c o))
      (fun K => (wpE_waitDma2_eq 𝒱₀ (c : Thread nD τ) none Set.univ (src := src) (dst := srcM k) (hsrc := hsrc) (hdst := hdst) (K := K)).trans (by rw [credit_src])) (Set.mem_univ _) () (O := Ow c O) (W := W) (R := 0) (m := 0) (T := ∅)
      ((Nat.zero_add _).trans (expect_send xb c o ho).symm)) $$ [Hc HO Hat]
  · isplitr; · iapply (inv_own xb κ c (sIx o)); iexact HI
    isplitl [Hc]; · iexact Hc
    isplitl [HO]; · iexact HO
    isplitr
    · iapply (mayWait_Ow c (osem (sIx o)) O (by have := lv_send c o; rw [this]; omega)); iexact Hlev
    iexact Hat
  iintro ⟨HO, Hat, -, Hpay⟩
  ihave Hx := (Entails.of_eq (rest_send xb c o ho)) $$ Hpay
  rw [wp_ret]
  imodintro
  iapply Hk
  isplitl [Hrest Hx Hat]
  · iapply (Entails.of_eq (fam_put (sendSt xb c o.val b) (sendSt xb c (o.val + 1) b) o (fun i hi => sendSt_wait xb c b o i hi)))
    rw [sendSt_done xb c (o.val + 1) b o ho (Nat.lt_succ_self _)]
    isplitr [Hrest]
    · isplitl [Hx] <;> iassumption
    · iexact Hrest
  · iexists _; iexact HO

/-- The wait for the rows of the device `o` behind. -/
theorem step_wait_recv (o : Fin 16) (ho : o ≠ 0) (b : ℕ) (hb : o.val < b)
    (src : Memref sig .tc .hbm S512x512 .bf16)
    (dst : Memref sig .tc .vmem S512x512 .bf16) (k : Fin 16) (hdstM : dst = slotM k)
    (sR : DmaSem sig) (hR : sR = osemD (rIx (c - o)))
    {hsrc : src.view.WordExact} {hdst : dst.view.WordExact} (Q : PUnit → sProp 𝕄) :
    iprop(Invs xb κ ∗ levAts L lv ∗ fam (recvSt xb c o.val) ∗ owe c (Ow c b)
        ∗ ((fam (recvSt xb c (o.val + 1)) ∗ owe c (Ow c b)) -∗ Q ⟨⟩))
      ⊢ wpk c (Prog.lift (.waitDma2 sR src dst hsrc hdst)) Q := by
  subst hdstM; subst hR
  show _ ⊢ wp frame (wpE (defs₀ (F := F)) 𝒱₀ (c : Thread nD τ) none) Set.univ (.op (.waitDma2 (osemD (rIx (c - o))) src (slotM k) hsrc hdst) .ret) Q
  rw [fam_at (recvSt xb c o.val) o, recvSt_due xb c o ho]
  unfold owe
  iintro ⟨#HI, #Hlev, ⟨⟨Hc, Hat⟩, Hrest⟩, ⟨%W, HO⟩, Hk⟩
  iapply (Rounds.wp_wait_rest_token 𝒱₀ ER (exRd xb) (c : Thread nD τ) none (κ := κ (recvCell c (c - o)))
      (wpE_waitDma2_eq (src := src) (dst := slotM k) (hsrc := hsrc) (hdst := hdst) 𝒱₀ (c : Thread nD τ) none Set.univ) (Set.mem_univ _) () (O := Ow c b) (W := W) (R := 0) (m := 0) (T := ∅)
      ((Nat.zero_add _).trans (expect_recv xb c (c - o) (sub_ne c o ho)).symm)) $$ [Hc HO Hat]
  · isplitr; · iapply (inv_own xb κ c (rIx (c - o))); iexact HI
    isplitl [Hc]; · iexact Hc
    isplitl [HO]; · iexact HO
    isplitr
    · iapply (mayWait_Ow c (osem (rIx (c - o))) b (by have := lv_recv c (c - o); rw [this, sub_sub_self']; omega)); iexact Hlev
    iexact Hat
  iintro ⟨HO, Hat, -, Hpay⟩
  ihave Hx := (Entails.of_eq (rest_recv xb c (c - o) (sub_ne c o ho))) $$ Hpay
  rw [wp_ret]
  imodintro
  iapply Hk
  isplitl [Hrest Hx Hat]
  · iapply (Entails.of_eq (fam_put (recvSt xb c o.val) (recvSt xb c (o.val + 1)) o (fun i hi => recvSt_wait xb c o i hi)))
    rw [recvSt_done xb c (o.val + 1) o ho (Nat.lt_succ_self _)]
    isplitr [Hrest]
    · isplitl [Hx] <;> iassumption
    · iexact Hrest
  · iexists _; iexact HO

/-- The copy of the own rows into the own slot, -/
theorem step_local
    (src : Memref sig .tc .hbm S512x512 .bf16) (hsrcM : src = srcM c)
    (dst : Memref sig .tc .vmem S512x512 .bf16) (hdstM : dst = slotM c)
    (sL : DmaSem sig) (hL : sL = osemD lIx)
    {hsrc : src.view.WordExact} {hdst : dst.view.WordExact}
    {hsem : DmaTarget.Typed (nD := nD) (τ := τ) (p := .tc) .hbm (SemLoc.dma sL) (.here dst)} (Q : PUnit → sProp 𝕄) :
    iprop(Invs xb κ ∗ (∃ f, slotPts c c f) ∗ srcPts xb c c ∗ dutyTok ER (localCell c) 0 0 ∗ reached ER (localCell c) 0
        ∗ (cred (tallyAt (localCell c) () NB) -∗ Q ⟨⟩))
      ⊢ wpk c (Prog.lift (.enqueueDma src (.here dst) (.dma sL) hsrc hdst hsem)) Q := by
  subst hsrcM; subst hdstM; subst hL
  show _ ⊢ wp frame (wpE (defs₀ (F := F)) 𝒱₀ (c : Thread nD τ) none) Set.univ
    (.op (.enqueueDma (srcM c) (.here (slotM c)) (.dma (osemD lIx)) hsrc hdst hsem) .ret) Q
  iintro ⟨#HI, ⟨%fd, Hs⟩, Hx, Ht, #Hr, Hk⟩
  iapply (Rounds.wp_copy_pointsTo 𝒱₀ ER (exRd xb) (c : Thread nD τ) none (src := srcM c) (dst := slotM c) (sem := osem lIx) (q := fullShare)
      (fs := xb c) (fd := fd) (r := 0) (d := 0) (κ := κ (localCell c))
      (by rw [duties_local]; exact Finset.mem_singleton_self _) () NB rfl (amount_own xb c lIx 0)
      (by rw [payload_local]; exact BI.sep_mono (Entails.of_eq (pointsTo_congr (landed_eq xb c c fd))) (BI.Entails.refl _))) $$ [Hs Hx Ht]
  · isplitr; · iapply (inv_own xb κ c lIx); iexact HI
    isplitl [Hx]; · iexact Hx
    isplitl [Hs]; · iexact Hs
    isplitl [Ht]; · iexact Ht
    iexact Hr
  iintro HcS
  rw [wp_ret]
  imodintro
  iapply Hk
  iexact HcS

/-- and its wait. -/
theorem step_wait_local (b : ℕ)
    (src : Memref sig .tc .hbm S512x512 .bf16)
    (dst : Memref sig .tc .vmem S512x512 .bf16) (k : Fin 16) (hdstM : dst = slotM k)
    (sL : DmaSem sig) (hL : sL = osemD lIx)
    {hsrc : src.view.WordExact} {hdst : dst.view.WordExact} (Q : PUnit → sProp 𝕄) :
    iprop(Invs xb κ ∗ levAts L lv ∗ cred (tallyAt (localCell c) () NB) ∗ atPos ER (localCell c) 0 ∅ 0 ∗ owe c (Ow c b)
        ∗ ((localSt xb c ∗ owe c (Ow c b)) -∗ Q ⟨⟩))
      ⊢ wpk c (Prog.lift (.waitDma2 sL src dst hsrc hdst)) Q := by
  subst hdstM; subst hL
  show _ ⊢ wp frame (wpE (defs₀ (F := F)) 𝒱₀ (c : Thread nD τ) none) Set.univ (.op (.waitDma2 (osemD lIx) src (slotM k) hsrc hdst) .ret) Q
  unfold owe localSt
  iintro ⟨#HI, #Hlev, Hc, Hat, ⟨%W, HO⟩, Hk⟩
  iapply (Rounds.wp_wait_rest_token 𝒱₀ ER (exRd xb) (c : Thread nD τ) none (κ := κ (localCell c))
      (wpE_waitDma2_eq (src := src) (dst := slotM k) (hsrc := hsrc) (hdst := hdst) 𝒱₀ (c : Thread nD τ) none Set.univ) (Set.mem_univ _) () (O := Ow c b) (W := W) (R := 0) (m := 0) (T := ∅)
      ((Nat.zero_add _).trans (expect_local xb c).symm)) $$ [Hc HO Hat]
  · isplitr; · iapply (inv_own xb κ c lIx); iexact HI
    isplitl [Hc]; · iexact Hc
    isplitl [HO]; · iexact HO
    isplitr
    · iapply (mayWait_Ow c (osem lIx) b (by have := lv_local c; rw [this]; omega)); iexact Hlev
    iexact Hat
  iintro ⟨HO, Hat, -, Hpay⟩
  ihave Hp := (Entails.of_eq (rest_local xb c)) $$ Hpay
  icases Hp with ⟨Hs, Hx⟩
  rw [wp_ret]
  imodintro
  iapply Hk
  isplitl [Hs Hx Hat]
  · isplitl [Hs]; · iexact Hs
    isplitl [Hx] <;> iassumption
  · iexists _; iexact HO

/-! ## The load of a slot -/

theorem step_load {off : Fin 2 → ℕ} (k : Fin 16) (h : off = ![512 * k.val, 0]) (inb : ∀ a, off a + S512x512.size a ≤ S8192x512.size a)
    {hl : commM.view.LoadsAt (Rect.unit (s := S8192x512) off S512x512.size inb).toLoadRect}
    (f : (cc0_scratch0 : Ref sig .tc).ty.Contents (Elt F))
    (Q : ((Rect.unit (s := S8192x512) off S512x512.size inb).toLoadRect.shape.Idx → Elt F .bf16) → sProp 𝕄) :
    iprop(slotPts c k f ∗ (slotPts c k f -∗ Q ((commM.access (Rect.unit (s := S8192x512) off S512x512.size inb)).read (Elt F) f)))
      ⊢ wpk c (Prog.lift (.load commM (Rect.unit (s := S8192x512) off S512x512.size inb).toLoadRect hl)) Q := by
  subst h
  show _ ⊢ wp frame (wpE (defs₀ (F := F)) 𝒱₀ (c : Thread nD τ) none) Set.univ (.op (.load commM (rowsR k).toLoadRect hl) .ret) Q
  iintro ⟨Hs, Hk⟩
  iapply (wp_load_rect 𝒱₀ (c : Thread nD τ) none Set.univ (m := commM) (r := rowsR k) (hl := hl) (S := (slotM k).view.set) (q := fullShare) (f := f)
    (Finset.Subset.refl _)) $$ [Hs]
  · iexact Hs
  iintro Hs
  rw [wp_ret]
  imodintro
  iapply Hk
  iexact Hs

end Steps

end Cert.KernelIdeal.Exch

end
-- ==== Proof.Sites.lean ====
/- Where each operation of the kernel reads and writes, whom it addresses and when it is reached: closed forms over the
   grid point and the device, decided once. -/
module

public import proofs.«01_k».proof.Proof.Cells

@[expose] public section

set_option maxRecDepth 16384

noncomputable section

namespace Cert.KernelIdeal.Exch

open Idealize.ShloMosaic Idealize.ShloMosaic.TcCoe
open Cert.KernelIdeal Cert.KernelIdeal.Gen

/-- Grid point `j`'s coordinates. -/
abbrev pt (j : Fin 16) : grid0.Coords := fun a => ⟨j.val, by
  match a with
  | 0 => exact j.isLt⟩

theorem coords_eq (t : Fin grid0.N) : grid0.coords t = pt (t.cast N_0) := by
  revert t; decide +kernel

theorem chk_word : ∀ (j c : Fin 16), k0_chk1 (pt j) (Dev.word (nD := 16) c) := by decide +kernel

theorem cond1_iff : ∀ j : Fin 16, k0_cond1 (pt j) = 1#1 ↔ j = 0 := by decide +kernel
theorem cond2_iff : ∀ j : Fin 16, k0_cond2 (pt j) = 1#1 ↔ j ≠ 0 := by decide +kernel
theorem cond3_iff : ∀ j : Fin 16, k0_cond3 (pt j) = 1#1 ↔ j = 0 := by decide +kernel
theorem cond4_iff : ∀ j : Fin 16, k0_cond4 (pt j) = 1#1 ↔ j ≠ 0 := by decide +kernel
theorem cond5_iff : ∀ j : Fin 16, k0_cond5 (pt j) = 1#1 ↔ j ≠ 0 ∧ j.val + 3 < 16 := by decide +kernel
theorem cond6_iff : ∀ j : Fin 16, k0_cond6 (pt j) = 1#1 ↔ j ≠ 0 := by decide +kernel
theorem cond7_iff : ∀ j : Fin 16, k0_cond7 (pt j) = 1#1 ↔ j = 15 := by decide +kernel

theorem off1_eq : ∀ c : Fin 16, k0_off1 (Dev.word (nD := 16) c) = ![512 * c.val, 0] := by decide +kernel
theorem off2_eq : ∀ c : Fin 16, k0_off2 (Dev.word (nD := 16) c) = ![c.val] := by decide +kernel
theorem off3_1 : ∀ c : Fin 16, k0_off3 (Dev.word (nD := 16) c) 1#32 = ![512 * (c + 1).val, 0] := by decide +kernel
theorem off3_2 : ∀ c : Fin 16, k0_off3 (Dev.word (nD := 16) c) 2#32 = ![512 * (c + 2).val, 0] := by decide +kernel
theorem off3_3 : ∀ c : Fin 16, k0_off3 (Dev.word (nD := 16) c) 3#32 = ![512 * (c + 3).val, 0] := by decide +kernel
theorem off4_eq : ∀ j c : Fin 16, k0_off4 (pt j) (Dev.word (nD := 16) c) = ![(c - j).val] := by decide +kernel
theorem off5_eq : ∀ j c : Fin 16, k0_off5 (pt j) (Dev.word (nD := 16) c) = ![512 * (c - j).val, 0] := by decide +kernel
theorem off6_eq : ∀ j c : Fin 16, k0_off6 (pt j) (Dev.word (nD := 16) c) = ![512 * (c - j).val, 0] := by decide +kernel
theorem off7_eq : ∀ j : Fin 16, j.val + 3 < 16 → k0_off7 (pt j) = ![(j + 3).val] := by decide +kernel
theorem off8_eq : ∀ c : Fin 16, k0_off8 (Dev.word (nD := 16) c) = ![c.val] := by decide +kernel
theorem off9_eq : ∀ c : Fin 16, k0_off9 (Dev.word (nD := 16) c) = ![512 * c.val, 0] := by decide +kernel
theorem off10_eq : ∀ j c : Fin 16, k0_off10 (pt j) (Dev.word (nD := 16) c) = ![512 * (c + (j + 3)).val, 0] := by decide +kernel
theorem off11_eq : ∀ j : Fin 16, k0_off11 (pt j) = ![j.val] := by decide +kernel
theorem off12_eq : ∀ j c : Fin 16, k0_off12 (pt j) (Dev.word (nD := 16) c) = ![512 * (c + j).val, 0] := by decide +kernel

theorem dev_eqs : ∀ c : Fin 16,
    k0_dev1 (Dev.word (nD := 16) c) = (c + 1).val ∧ k0_dev2 (Dev.word (nD := 16) c) = (c + 2).val
    ∧ k0_dev3 (Dev.word (nD := 16) c) = (c + 3).val ∧ k0_dev4 (Dev.word (nD := 16) c) = (c + 4).val
    ∧ k0_dev5 (Dev.word (nD := 16) c) = (c + 5).val ∧ k0_dev6 (Dev.word (nD := 16) c) = (c + 6).val
    ∧ k0_dev7 (Dev.word (nD := 16) c) = (c + 7).val ∧ k0_dev8 (Dev.word (nD := 16) c) = (c + 8).val
    ∧ k0_dev9 (Dev.word (nD := 16) c) = (c + 9).val ∧ k0_dev10 (Dev.word (nD := 16) c) = (c + 10).val
    ∧ k0_dev11 (Dev.word (nD := 16) c) = (c + 11).val ∧ k0_dev12 (Dev.word (nD := 16) c) = (c + 12).val
    ∧ k0_dev13 (Dev.word (nD := 16) c) = (c + 13).val ∧ k0_dev14 (Dev.word (nD := 16) c) = (c + 14).val
    ∧ k0_dev15 (Dev.word (nD := 16) c) = (c + 15).val ∧ k0_dev16 (Dev.word (nD := 16) c) = (c + 1).val
    ∧ k0_dev17 (Dev.word (nD := 16) c) = (c + 2).val ∧ k0_dev18 (Dev.word (nD := 16) c) = (c + 3).val := by decide +kernel
theorem dev19_eq : ∀ j c : Fin 16, k0_dev19 (pt j) (Dev.word (nD := 16) c) = (c + (j + 3)).val := by decide +kernel

/-! ## The semaphores by their places -/

theorem send_sem {off : Fin 1 → ℕ} (o : Fin 16) (h : off = ![o.val]) (inb : ∀ a, off a + S1.size a ≤ S16.size a) :
    (((cc0_scratch1.slice (Rect.unit (s := S16) off S1.size inb)).squeeze S_ squeezes_S1_S_).sem : DmaSem sig) = osemD (sIx o) := by
  subst h; revert o; decide
theorem recv_sem {off : Fin 1 → ℕ} (o : Fin 16) (h : off = ![o.val]) (inb : ∀ a, off a + S1.size a ≤ S16.size a) :
    (((cc0_scratch2.slice (Rect.unit (s := S16) off S1.size inb)).squeeze S_ squeezes_S1_S_).sem : DmaSem sig) = osemD (rIx o) := by
  subst h; revert o; decide
theorem local_sem : (cc0_scratch3.sem : DmaSem sig) = osemD lIx := by decide

end Cert.KernelIdeal.Exch

end
-- ==== Proof.Stage.lean ====
/- The kernel's reads of its table and its reads and writes of the two staging buffers. -/
module

public import proofs.«01_k».proof.Proof.Steps
public import proofs.«01_k».proof.Proof.Sites

@[expose] public section

set_option maxRecDepth 16384

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (c : Dev nD)

/-- The table on device `c`: its own number. -/
def tab : (main_v6 : Ref sig .tc).ty.Contents (Elt F) := fun _ => Dev.word c
abbrev tabPts : sProp 𝕄 := ((c : Thread nD τ).loc main_v6) ↦{fullShare} (tab c : (main_v6 : Ref sig .tc).ty.Contents (Elt F))

theorem step_tab_read (inb : ∀ a, (![0] : Fin 1 → ℕ) a + S1.size a ≤ S1.size a) (hn : (Rect.unit (s := S1) ![0] S1.size inb).shape.numel = 1)
    (h0 : 0 < (Rect.unit (s := S1) ![0] S1.size inb).shape.numel)
    (hp : (EltTy.i32).packing = 1) (Q : Elt F .i32 → sProp 𝕄) :
    iprop(tabPts c ∗ (tabPts c -∗ Q (((Memref.whole main_v6).access (Rect.unit (s := S1) ![0] S1.size inb)).read (Elt F) (tab c) (Shape.Idx.first h0))))
      ⊢ wpk c (smemLoad (Memref.whole main_v6) (Rect.unit (s := S1) ![0] S1.size inb) hn hp) Q := by
  unfold smemLoad
  iintro ⟨Ht, Hk⟩
  iapply (wp_smemLoadElt 𝒱₀ (c : Thread nD τ) none Set.univ (m := Memref.whole main_v6) (S := Finset.univ) (q := fullShare) (f := tab c)
    (Finset.subset_univ _)) $$ [Ht]
  · iexact Ht
  iintro Ht
  rw [wp_ret]
  imodintro
  iapply Hk
  iexact Ht

theorem step_tab (inb : ∀ a, (![0] : Fin 1 → ℕ) a + S1.size a ≤ S1.size a) (hn : (Rect.unit (s := S1) ![0] S1.size inb).shape.numel = 1)
    (hp : (EltTy.i32).packing = 1) (Q : Elt F .i32 → sProp 𝕄) :
    iprop(tabPts c ∗ (tabPts c -∗ Q (Dev.word c)))
      ⊢ wpk c (smemLoad (Memref.whole main_v6) (Rect.unit (s := S1) ![0] S1.size inb) hn hp) Q :=
  step_tab_read c inb hn (lt_of_lt_of_eq Nat.one_pos hn.symm) hp Q

theorem emb_zero (inb : ∀ a, (![0, 0] : Fin 2 → ℕ) a + S512x4096.size a ≤ S512x4096.size a)
    (x : S512x4096.Idx) : (Rect.unit (s := S512x4096) ![0, 0] S512x4096.size inb).emb x = x := by
  funext a
  apply Fin.ext
  have h := ValueKit.rect_emb_unit_val (s := S512x4096) ![0, 0] S512x4096.size inb x a
  have h0 : ∀ a : Fin 2, (![0, 0] : Fin 2 → ℕ) a = 0 := by decide
  rw [h0 a, Nat.zero_add] at h
  exact h

theorem step_load_stage (m : Memref sig .tc .vmem S512x4096 .f32) (X : S512x4096.Idx → Elt F .f32)
    (inb : ∀ a, (![0, 0] : Fin 2 → ℕ) a + S512x4096.size a ≤ S512x4096.size a)
    {hl : m.view.LoadsAt (Rect.unit (s := S512x4096) ![0, 0] S512x4096.size inb).toLoadRect}
    (Q : ((Rect.unit (s := S512x4096) ![0, 0] S512x4096.size inb).toLoadRect.shape.Idx → Elt F .f32) → sProp 𝕄) :
    iprop(owns (c : Thread nD τ) m fullShare X ∗ (owns (c : Thread nD τ) m fullShare X -∗ Q X))
      ⊢ wpk c (Prog.lift (.load m (Rect.unit (s := S512x4096) ![0, 0] S512x4096.size inb).toLoadRect hl)) Q := by
  show _ ⊢ wp frame (wpE (defs₀ (F := F)) 𝒱₀ (c : Thread nD τ) none) Set.univ
    (.op (.load m (Rect.unit (s := S512x4096) ![0, 0] S512x4096.size inb).toLoadRect hl) .ret) Q
  unfold owns
  iintro ⟨⟨%f, %hf, Hs⟩, Hk⟩
  iapply (wp_load_rect 𝒱₀ (c : Thread nD τ) none Set.univ (m := m) (r := Rect.unit (s := S512x4096) ![0, 0] S512x4096.size inb) (hl := hl)
    (S := m.view.set) (q := fullShare) (f := f) (View.set_slice_subset _ _)) $$ [Hs]
  · iexact Hs
  iintro Hs
  rw [wp_ret]
  imodintro
  have e : (m.access (Rect.unit (s := S512x4096) ![0, 0] S512x4096.size inb)).read (Elt F) f = X := by
    rw [← hf]; funext x
    show m.view.read (Elt F) f ((Rect.unit (s := S512x4096) ![0, 0] S512x4096.size inb).emb x) = m.view.read (Elt F) f x
    rw [emb_zero]
  rw [e]
  iapply Hk
  iexists f
  isplitr
  · ipureintro; exact hf
  · iexact Hs

theorem step_store_stage (m : Memref sig .tc .vmem S512x4096 .f32) (X w : S512x4096.Idx → Elt F .f32)
    (inb : ∀ a, (![0, 0] : Fin 2 → ℕ) a + S512x4096.size a ≤ S512x4096.size a)
    {hx : (m.access (Rect.unit (s := S512x4096) ![0, 0] S512x4096.size inb)).Stores Finset.univ}
    {hm : (Finset.univ : Finset (Rect.unit (s := S512x4096) ![0, 0] S512x4096.size inb).shape.Idx) = Finset.univ
      ∨ ∀ a, (Rect.unit (s := S512x4096) ![0, 0] S512x4096.size inb).stride a = 1}
    (Q : PUnit → sProp 𝕄) :
    iprop(owns (c : Thread nD τ) m fullShare X ∗ (owns (c : Thread nD τ) m fullShare w -∗ Q ⟨⟩))
      ⊢ wpk c (Prog.lift (.store m (Rect.unit (s := S512x4096) ![0, 0] S512x4096.size inb) w Finset.univ hx hm)) Q := by
  show _ ⊢ wp frame (wpE (defs₀ (F := F)) 𝒱₀ (c : Thread nD τ) none) Set.univ
    (.op (.store m (Rect.unit (s := S512x4096) ![0, 0] S512x4096.size inb) w Finset.univ hx hm) .ret) Q
  unfold owns
  iintro ⟨⟨%f, -, Hs⟩, Hk⟩
  iapply (wp_store 𝒱₀ (c : Thread nD τ) none Set.univ (m := m) (r := Rect.unit (s := S512x4096) ![0, 0] S512x4096.size inb) (hx := hx) (hm := hm)
    (S := m.view.set) (f := f) ((View.setOn_subset_set _ _).trans (View.set_slice_subset _ _))) $$ [Hs]
  · iexact Hs
  iintro Hs
  rw [wp_ret]
  imodintro
  iapply Hk
  iexists _
  isplitr [Hs]
  rotate_left
  · iexact Hs
  · ipureintro
    funext x
    have h := congrFun (View.read_write_univ (v := m.access (Rect.unit (s := S512x4096) ![0, 0] S512x4096.size inb))
      (Val := Elt F) f w) x
    refine Eq.trans ?_ h
    show m.view.read (Elt F) _ x = m.view.read (Elt F) _ ((Rect.unit (s := S512x4096) ![0, 0] S512x4096.size inb).emb x)
    rw [emb_zero]

/-- The rows for device `c` that device `k` holds, as they lie in `c`'s slot `k`. -/
def slotv (xb : XB F) (c k : Dev nD) : Vec F S512x512 .bf16 := fun x => xb k ((rowsR c).emb x)

theorem read_slot (xb : XB F) (k : Fin 16) {off : Fin 2 → ℕ} (h : off = ![512 * k.val, 0])
    (inb : ∀ a, off a + S512x512.size a ≤ S8192x512.size a) :
    (commM.access (Rect.unit (s := S8192x512) off S512x512.size inb)).read (Elt F) (gath xb c) = slotv xb c k := by
  subst h
  funext x
  show xb (blk ((rowsR k).emb x)) ((rowsR c).emb (loc ((rowsR k).emb x))) = xb k ((rowsR c).emb x)
  rw [blk_emb, loc_emb]

theorem step_load_slot (xb : XB F) {off : Fin 2 → ℕ} (k : Fin 16) (h : off = ![512 * k.val, 0])
    (inb : ∀ a, off a + S512x512.size a ≤ S8192x512.size a)
    {hl : commM.view.LoadsAt (Rect.unit (s := S8192x512) off S512x512.size inb).toLoadRect}
    (Q : ((Rect.unit (s := S8192x512) off S512x512.size inb).toLoadRect.shape.Idx → Elt F .bf16) → sProp 𝕄) :
    iprop(slotPts c k (gath xb c) ∗ (slotPts c k (gath xb c) -∗ Q (slotv xb c k)))
      ⊢ wpk c (Prog.lift (.load commM (Rect.unit (s := S8192x512) off S512x512.size inb).toLoadRect hl)) Q :=
  read_slot c xb k h inb ▸ step_load c k h inb (gath xb c) Q

theorem step_load_fam (xb : XB F) (t : ℕ) (o : Fin 16) (ho : o ≠ 0) (hot : o.val < t) {off : Fin 2 → ℕ} (h : off = ![512 * (c - o).val, 0])
    (inb : ∀ a, off a + S512x512.size a ≤ S8192x512.size a)
    {hl : commM.view.LoadsAt (Rect.unit (s := S8192x512) off S512x512.size inb).toLoadRect}
    (Q : ((Rect.unit (s := S8192x512) off S512x512.size inb).toLoadRect.shape.Idx → Elt F .bf16) → sProp 𝕄) :
    iprop(fam (recvSt xb c t) ∗ (fam (recvSt xb c t) -∗ Q (slotv xb c (c - o))))
      ⊢ wpk c (Prog.lift (.load commM (Rect.unit (s := S8192x512) off S512x512.size inb).toLoadRect hl)) Q := by
  rw [fam_at (recvSt xb c t) o, recvSt_done xb c t o ho hot]
  iintro ⟨⟨⟨Hs, Ha⟩, Hr⟩, HQ⟩
  iapply (step_load_slot c xb (c - o) h inb) $$ [-]
  isplitl [Hs]
  · iexact Hs
  iintro Hs
  iapply HQ
  isplitl [Hs Ha]
  · isplitl [Hs]
    · iexact Hs
    · iexact Ha
  · iexact Hr

theorem step_pure {α : Type} (a : α) (Q : α → sProp 𝕄) : Q a ⊢ wpk (F := F) c (Pure.pure a) Q := by
  show _ ⊢ wp frame (wpE (defs₀ (F := F)) 𝒱₀ (c : Thread nD τ) none) Set.univ (.ret a) Q
  rw [wp_ret]
  iintro H
  imodintro
  iexact H

end Cert.KernelIdeal.Exch

end
-- ==== Proof.BodyFirst.lean ====
/- The first grid point: the entry barrier, the copy of the device's own rows, the first three copies to other devices,
and the first product. -/
module

public import proofs.«01_k».proof.Proof.Stage

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xb : XB F) (κ : GSem nD τ sig → ℕ) (c : Dev nD)

/-- What the signals have before the one to the device at offset `n`. -/
abbrev sigAt (n : ℕ) : sProp 𝕄 := iprop(fam (sigSt c n) ∗ owe c (Ow c 1 + BarOw c n))

theorem step_sigN (n : ℕ) (hn : n < 16) (h0 : n ≠ 0) (d : Dev nD) (hd : d.val = (c + (⟨n, hn⟩ : Fin 16)).val) (Q : PUnit → sProp 𝕄) :
    iprop(Invs xb κ ∗ sigAt c n ∗ (sigAt c (n + 1) -∗ Q ⟨⟩)) ⊢ wpk c (semSignalWord d barS 1#32) Q := by
  have h := step_sig xb κ c ⟨n, hn⟩ (fun h => h0 (congrArg Fin.val h)) d (Fin.ext hd) Q
  iintro ⟨HI, ⟨Hs, Ho⟩, HQ⟩
  iapply h
  isplitl [HI]; iexact HI
  isplitl [Hs]; iexact Hs
  isplitl [Ho]; iexact Ho
  iexact HQ

theorem sig_then {α : Type} (n : ℕ) (hn : n < 16) (h0 : n ≠ 0) (d : Dev nD) (hd : d.val = (c + (⟨n, hn⟩ : Fin 16)).val)
    (k : PUnit → Prog (TpuEff nD τ sig (Elt F) Λ₀ .tc) α) (R : sProp 𝕄) (Q : α → sProp 𝕄)
    (h : iprop(Invs xb κ ∗ sigAt c (n + 1) ∗ R) ⊢ wpk c (k ⟨⟩) Q) :
    iprop(Invs xb κ ∗ sigAt c n ∗ R) ⊢ wpk c (semSignalWord d barS 1#32 >>= k) Q := by
  unfold wpk
  rw [wp_bind]
  iintro ⟨#HI, Hs, HR⟩
  iapply (step_sigN xb κ c n hn h0 d hd) $$ [-]
  isplitl []; iexact HI
  isplitl [Hs]; iexact Hs
  iintro Hs
  iapply h
  isplitl []; iexact HI
  isplitl [Hs]; iexact Hs
  iexact HR

theorem part1_first (j : Fin 16) (hw1 : k0_chk1 (pt j) (Dev.word (nD := 16) c)) (h1 : k0_cond1 (pt j) = 1#1)
    (arg3 arg4 : Memref sig .tc .vmem S512x4096 .f32) (h3 : arg3.IsWhole) (h4 : arg4.IsWhole) (R : sProp 𝕄) (Q : Sems sig S_ → sProp 𝕄)
    (h : iprop(Invs xb κ ∗ sigAt c 10 ∗ R) ⊢ Q (SemArray.scalar (sig.barrier 0 rfl))) :
    iprop(Invs xb κ ∗ sigAt c 1 ∗ R)
      ⊢ wpk c (k0_part1_skel (F := F) (pt j) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3 (Dev.word c) hw1 h1) Q := by
  obtain ⟨d1, d2, d3, d4, d5, d6, d7, d8, d9, -⟩ := dev_eqs c
  unfold k0_part1_skel
  refine sig_then xb κ c 1 (by decide) (by decide) _ d1 _ R Q ?_
  refine sig_then xb κ c 2 (by decide) (by decide) _ d2 _ R Q ?_
  refine sig_then xb κ c 3 (by decide) (by decide) _ d3 _ R Q ?_
  refine sig_then xb κ c 4 (by decide) (by decide) _ d4 _ R Q ?_
  refine sig_then xb κ c 5 (by decide) (by decide) _ d5 _ R Q ?_
  refine sig_then xb κ c 6 (by decide) (by decide) _ d6 _ R Q ?_
  refine sig_then xb κ c 7 (by decide) (by decide) _ d7 _ R Q ?_
  refine sig_then xb κ c 8 (by decide) (by decide) _ d8 _ R Q ?_
  refine sig_then xb κ c 9 (by decide) (by decide) _ d9 _ R Q ?_
  exact h.trans (step_pure c _ Q)

def addEmb : Fin 16 ↪ Fin 16 := ⟨fun o => c + o, fun a b h => by
  have e : (c + a) - c = (c + b) - c := congrArg (fun x : Fin 16 => x - c) h
  exact (add_sub_self c a).symm.trans (e.trans (add_sub_self c b))⟩

theorem pre_to_send : iprop(fam (preSt xb c) ∗ bigSep (Finset.univ.erase c) (fun p => barPay (F := F) c p)) ⊢ fam (sendSt xb c 1 1) := by
  have hmap : (Finset.univ.erase c : Finset (Fin 16)) = (Finset.univ.erase (0 : Fin 16)).map (addEmb c) := by
    ext p
    rw [Finset.mem_map]
    constructor
    · intro hp
      refine ⟨p - c, Finset.mem_erase.mpr ⟨fun h => Finset.ne_of_mem_erase hp ?_, Finset.mem_univ _⟩, add_sub_self' c p⟩
      have e := add_sub_self' c p
      rw [h] at e
      exact e.symm.trans (Fin.add_zero c)
    · rintro ⟨o, ho, rfl⟩
      exact Finset.mem_erase.mpr ⟨add_ne c o (Finset.ne_of_mem_erase ho), Finset.mem_univ _⟩
  rw [hmap, bigSep_map, fam_at (preSt xb c) 0, fam_at (sendSt xb c 1 1) 0]
  have e0 : preSt xb c 0 = sendSt xb c 1 1 0 := by unfold preSt sendSt; rw [if_pos rfl, if_pos rfl]
  rw [e0]
  have e1 : bigSep (Finset.univ.erase (0 : Fin 16)) (sendSt xb c 1 1)
      = bigSep (Finset.univ.erase (0 : Fin 16)) (fun o => iprop(preSt xb c o ∗ barPay (F := F) c (c + o))) := by
    refine bigSep_congr fun o ho => ?_
    have hne := Finset.ne_of_mem_erase ho
    have : o.val ≠ 0 := fun h => hne (Fin.ext h)
    unfold sendSt preSt
    rw [if_neg hne, if_neg hne, if_neg (by omega), if_neg (by omega)]
  rw [e1, bigSep_sep']
  iintro ⟨⟨H0, Hp⟩, Hb⟩
  isplitl [H0]; iexact H0
  isplitl [Hp]; iexact Hp
  iexact Hb

/-- The copy to the device at offset `n`, and what follows it. -/
theorem send_then {α : Type} (o : Fin 16) (n : ℕ) (hn : o.val = n) (ho : o ≠ 0) (h1 : 1 ≤ n) (d : Dev nD) (hd : d = c + o)
    (src : Memref sig .tc .hbm S512x512 .bf16) (hsrcM : src = srcM (c + o))
    (dst : Memref sig .tc .vmem S512x512 .bf16) (hdstM : dst = slotM c)
    (sS sR : DmaSem sig) (hS : sS = osemD (sIx o)) (hR : sR = osemD (rIx c))
    {hsc : dst.view.ref.isScScratch = false} {hsrc : src.view.WordExact} {hdst : dst.view.WordExact}
    {hsem : DmaTarget.Typed .hbm (SemLoc.dma sR) (.remote (d : Thread nD τ) dst (.dma sS) hsc)}
    (k : PUnit → Prog (TpuEff nD τ sig (Elt F) Λ₀ .tc) α) (R : sProp 𝕄) (Q : α → sProp 𝕄)
    (h : iprop(Invs xb κ ∗ (fam (sendSt xb c 1 (n + 1)) ∗ owe c (Ow c (n + 1))) ∗ R) ⊢ wpk c (k ⟨⟩) Q) :
    iprop(Invs xb κ ∗ (fam (sendSt xb c 1 n) ∗ owe c (Ow c n)) ∗ R)
      ⊢ wpk c (Prog.lift (.enqueueDma src (.remote (d : Thread nD τ) dst (.dma sS) hsc) (.dma sR) hsrc hdst hsem) >>= k) Q := by
  subst hn
  unfold wpk
  rw [wp_bind]
  iintro ⟨#HI, ⟨Hs, Ho⟩, HR⟩
  iapply (step_send xb κ c 1 o ho h1 d hd src hsrcM dst hdstM sS sR hS hR) $$ [-]
  isplitl []; iexact HI
  isplitl [Hs]; iexact Hs
  isplitl [Ho]; iexact Ho
  iintro Hs
  iapply h
  isplitl []; iexact HI
  isplitl [Hs]; iexact Hs
  iexact HR

/-- What the barrier and the local copy have before them. -/
abbrev locRes : sProp 𝕄 :=
  iprop(levAts L lv ∗ cred (tallyAt (barCell c) () 15) ∗ atPos ER (barCell c) 0 ∅ 0 ∗ fam (preSt xb c)
    ∗ (∃ f, slotPts (F := F) c c f) ∗ srcPts xb c c ∗ dutyTok ER (localCell c) 0 0 ∗ reached ER (localCell c) 0)

theorem part2_first (j : Fin 16) (hw1 : k0_chk1 (pt j) (Dev.word (nD := 16) c)) (h1 : k0_cond1 (pt j) = 1#1)
    (arg3 arg4 : Memref sig .tc .vmem S512x4096 .f32) (h3 : arg3.IsWhole) (h4 : arg4.IsWhole) (R : sProp 𝕄) (Q : PUnit → sProp 𝕄)
    (h : iprop(Invs xb κ ∗ (fam (sendSt xb c 1 1) ∗ owe c (Ow c 1)) ∗ atPos ER (barCell c) 1 ∅ 0
      ∗ cred (tallyAt (localCell c) () NB) ∗ R) ⊢ Q ⟨⟩) :
    iprop(Invs xb κ ∗ sigAt c 10 ∗ locRes xb c ∗ R)
      ⊢ wpk c (k0_part2_skel (F := F) (pt j) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3 (Dev.word c) hw1 h1
          (SemArray.scalar (sig.barrier 0 rfl))) Q := by
  obtain ⟨-, -, -, -, -, -, -, -, -, d10, d11, d12, d13, d14, d15, -⟩ := dev_eqs c
  unfold k0_part2_skel
  refine sig_then xb κ c 10 (by decide) (by decide) _ d10 _ _ Q ?_
  refine sig_then xb κ c 11 (by decide) (by decide) _ d11 _ _ Q ?_
  refine sig_then xb κ c 12 (by decide) (by decide) _ d12 _ _ Q ?_
  refine sig_then xb κ c 13 (by decide) (by decide) _ d13 _ _ Q ?_
  refine sig_then xb κ c 14 (by decide) (by decide) _ d14 _ _ Q ?_
  refine sig_then xb κ c 15 (by decide) (by decide) _ d15 _ _ Q ?_
  unfold wpk
  rw [wp_bind, show sigAt (F := F) c (15 + 1) = iprop(fam (sigSt c 16) ∗ owe c (Ow c 1)) from by
    rw [show Ow c 1 = Ow c 1 + BarOw c 16 from by rw [BarOw_end c 16 (le_refl _), add_zero]]]
  iintro ⟨#HI, ⟨-, Ho⟩, ⟨#Hl, Hc, Hat, Hp, Hsl, Hx, Htok, #Hre⟩, HR⟩
  iapply (step_bar xb κ c) $$ [-]
  isplitl []; iexact HI
  isplitl []; iexact Hl
  isplitl [Hc]; iexact Hc
  isplitl [Hat]; iexact Hat
  isplitl [Ho]; iexact Ho
  iintro ⟨Hat, Hb, Ho⟩
  rw [wp_bind]
  iapply (step_local xb κ c _ (slice_src c (off1_eq c) _) _ (slice_slot c (off1_eq c) _) _ local_sem) $$ [-]
  isplitl []; iexact HI
  isplitl [Hsl]; iexact Hsl
  isplitl [Hx]; iexact Hx
  isplitl [Htok]; iexact Htok
  isplitl []; iexact Hre
  iintro Hlc
  iapply (step_pure c)
  iapply h
  isplitl []; iexact HI
  isplitl [Hp Hb Ho]
  · isplitl [Hp Hb]
    · iapply (pre_to_send xb c)
      isplitl [Hp]; iexact Hp
      iexact Hb
    · iexact Ho
  isplitl [Hat]; iexact Hat
  isplitl [Hlc]; iexact Hlc
  iexact HR

theorem part1_run (j : Fin 16) (hw1 : k0_chk1 (pt j) (Dev.word (nD := 16) c)) (h1 : k0_cond1 (pt j) = 1#1)
    (arg3 arg4 : Memref sig .tc .vmem S512x4096 .f32) (h3 : arg3.IsWhole) (h4 : arg4.IsWhole) (Q : Sems sig S_ → sProp 𝕄) :
    iprop(Invs xb κ ∗ sigAt c 1 ∗ (sigAt c 10 -∗ Q (SemArray.scalar (sig.barrier 0 rfl))))
      ⊢ wpk c (k0_part1_skel (F := F) (pt j) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3 (Dev.word c) hw1 h1) Q := by
  refine part1_first xb κ c j hw1 h1 arg3 arg4 h3 h4 _ Q ?_
  iintro ⟨-, Hs, HQ⟩
  iapply HQ
  iexact Hs

theorem part2_run (j : Fin 16) (hw1 : k0_chk1 (pt j) (Dev.word (nD := 16) c)) (h1 : k0_cond1 (pt j) = 1#1)
    (arg3 arg4 : Memref sig .tc .vmem S512x4096 .f32) (h3 : arg3.IsWhole) (h4 : arg4.IsWhole) (Q : PUnit → sProp 𝕄) :
    iprop(Invs xb κ ∗ sigAt c 10 ∗ locRes xb c
        ∗ (((fam (sendSt xb c 1 1) ∗ owe c (Ow c 1)) ∗ atPos ER (barCell c) 1 ∅ 0 ∗ cred (tallyAt (localCell c) () NB)) -∗ Q ⟨⟩))
      ⊢ wpk c (k0_part2_skel (F := F) (pt j) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3 (Dev.word c) hw1 h1
          (SemArray.scalar (sig.barrier 0 rfl))) Q := by
  refine part2_first xb κ c j hw1 h1 arg3 arg4 h3 h4 _ Q ?_
  iintro ⟨-, Hs, Ha, Hc, HQ⟩
  iapply HQ
  isplitl [Hs]; iexact Hs
  isplitl [Ha]; iexact Ha
  iexact Hc

/-- The first point, from the barrier to the first product. -/
theorem tail_first (arg3 arg4 : Memref sig .tc .vmem S512x4096 .f32) (h3 : arg3.IsWhole) (h4 : arg4.IsWhole)
    (wv X : S512x4096.Idx → Elt F .f32) (Q : BitVec 32 → sProp 𝕄) :
    iprop(Invs xb κ ∗ sigAt c 1 ∗ locRes xb c ∗ tabPts c ∗ atPos ER (localCell c) 0 ∅ 0
        ∗ owns (c : Thread nD τ) arg3 fullShare wv ∗ owns (c : Thread nD τ) arg4 fullShare X
        ∗ ((tabPts c ∗ fam (sendSt xb c 1 4) ∗ owe c (Ow c 4) ∗ localSt xb c ∗ atPos ER (barCell c) 1 ∅ 0
            ∗ owns (c : Thread nD τ) arg3 fullShare wv ∗ owns (c : Thread nD τ) arg4 fullShare (k0_pay2 (slotv xb c c) wv))
          -∗ Q (BitVec.ofNat 32 (0 : Fin 16).val)))
      ⊢ wpk c (k0_part3_skel (F := F) (pt 0) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3) Q := by
  obtain ⟨-, -, -, -, -, -, -, -, -, -, -, -, -, -, -, d16, d17, d18⟩ := dev_eqs c
  have off6_zero : k0_off6 (pt 0) (Dev.word (nD := 16) c) = ![512 * c.val, 0] := by
    have h := off6_eq 0 c
    rwa [show c - 0 = c from by revert c; decide] at h
  unfold wpk k0_part3_skel
  dsimp only
  iintro ⟨#HI, Hsig, Hloc, Ht, HatL, H3, H4, HQ⟩
  icases Hloc with ⟨#Hl, Hloc⟩
  rw [wp_bind]
  iapply (step_tab c) $$ [-]
  isplitl [Ht]
  · iexact Ht
  iintro Ht
  rw [wp_bind]
  iapply (wp_assume 𝒱₀ (c : Thread nD τ) none Set.univ (chk_word 0 c))
  dsimp only
  rw [wp_ret]
  imodintro
  rw [dif_pos ((cond1_iff 0).mpr rfl)]
  rw [wp_bind]
  iapply (part1_run xb κ c 0 (chk_word 0 c) ((cond1_iff 0).mpr rfl) arg3 arg4 h3 h4) $$ [-]
  isplitl []; iexact HI
  isplitl [Hsig]; iexact Hsig
  iintro Hsig
  rw [wp_bind]
  iapply (part2_run xb κ c 0 (chk_word 0 c) ((cond1_iff 0).mpr rfl) arg3 arg4 h3 h4) $$ [-]
  isplitl []; iexact HI
  isplitl [Hsig]; iexact Hsig
  isplitl [Hloc]
  · isplitl []; iexact Hl
    iexact Hloc
  iintro ⟨⟨Hs, Ho⟩, Hat, Hc⟩
  rw [wp_bind]
  iapply (step_send xb κ c 1 1 (by decide) (by decide) _ (Fin.ext d16) _ (slice_src (c + 1) (off3_1 c) _)
    _ (slice_slot c (off1_eq c) _) _ _ (send_sem 1 rfl _) (recv_sem c (off2_eq c) _)) $$ [-]
  isplitl []; iexact HI
  isplitl [Hs]; iexact Hs
  isplitl [Ho]; iexact Ho
  iintro ⟨Hs, Ho⟩
  rw [wp_bind]
  iapply (step_send xb κ c 1 2 (by decide) (by decide) _ (Fin.ext d17) _ (slice_src (c + 2) (off3_2 c) _)
    _ (slice_slot c (off1_eq c) _) _ _ (send_sem 2 rfl _) (recv_sem c (off2_eq c) _)) $$ [-]
  isplitl []; iexact HI
  isplitl [Hs]; iexact Hs
  isplitl [Ho]; iexact Ho
  iintro ⟨Hs, Ho⟩
  rw [wp_bind]
  iapply (step_send xb κ c 1 3 (by decide) (by decide) _ (Fin.ext d18) _ (slice_src (c + 3) (off3_3 c) _)
    _ (slice_slot c (off1_eq c) _) _ _ (send_sem 3 rfl _) (recv_sem c (off2_eq c) _)) $$ [-]
  isplitl []; iexact HI
  isplitl [Hs]; iexact Hs
  isplitl [Ho]; iexact Ho
  iintro ⟨Hs, Ho⟩
  rw [wp_bind]
  iapply (step_wait_local xb κ c 4 _ _ c (slice_slot c (off1_eq c) _) _ local_sem) $$ [-]
  isplitl []; iexact HI
  isplitl []; iexact Hl
  isplitl [Hc]; iexact Hc
  isplitl [HatL]; iexact HatL
  isplitl [Ho]; iexact Ho
  unfold localSt
  iintro ⟨HL, Ho⟩
  icases HL with ⟨Hsl, HLr⟩
  rw [dif_neg (show ¬ k0_cond2 (pt 0) = 1#1 from fun h => ((cond2_iff 0).mp h) rfl)]
  rw [wp_bind]
  iapply (step_load_slot c xb c off6_zero _) $$ [-]
  isplitl [Hsl]
  · iexact Hsl
  iintro Hsl
  rw [wp_bind]
  iapply (step_load_stage c arg3 wv _) $$ [-]
  isplitl [H3]
  · iexact H3
  iintro H3
  rw [dif_pos ((cond3_iff 0).mpr rfl)]
  rw [wp_bind]
  iapply (step_load_stage c arg4 X _) $$ [-]
  isplitl [H4]
  · iexact H4
  iintro H4
  rw [wp_bind]
  iapply (step_store_stage c arg4 X (k0_pay2 (slotv xb c c) wv) _) $$ [-]
  isplitl [H4]
  · iexact H4
  iintro H4
  rw [dif_neg (show ¬ k0_cond4 (pt 0) = 1#1 from fun h => ((cond4_iff 0).mp h) rfl),
    dif_neg (show ¬ k0_cond5 (pt 0) = 1#1 from fun h => ((cond5_iff 0).mp h).1 rfl),
    dif_neg (show ¬ k0_cond6 (pt 0) = 1#1 from fun h => ((cond6_iff 0).mp h) rfl)]
  iapply (step_pure c)
  iapply HQ
  isplitl [Ht]; iexact Ht
  isplitl [Hs]; iexact Hs
  isplitl [Ho]; iexact Ho
  isplitl [Hsl HLr]
  · isplitl [Hsl]; iexact Hsl
    iexact HLr
  isplitl [Hat]; iexact Hat
  isplitl [H3]; iexact H3
  iexact H4

end Cert.KernelIdeal.Exch

end
-- ==== Proof.BodyStep.lean ====
/- One grid point after the first: the rows of the device `j` behind are waited for, multiplied with their block of
the second operand and added to the accumulator, a further copy is sent and the copy of three points ago is waited for. -/
module

public import proofs.«01_k».proof.Proof.Stage

@[expose] public section

set_option maxRecDepth 16384

set_option pp.deepTerms false
set_option pp.deepTerms.threshold 3
noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xb : XB F) (κ : GSem nD τ sig → ℕ) (c : Dev nD)

/-- The tail of a point after the first: from the sum's store on. -/
theorem tail_pos (j : Fin 16) (hj : j ≠ 0) (arg3 arg4 : Memref sig .tc .vmem S512x4096 .f32) (h3 : arg3.IsWhole) (h4 : arg4.IsWhole)
    (wv X : S512x4096.Idx → Elt F .f32) (Q : BitVec 32 → sProp 𝕄) :
    iprop(Invs xb κ ∗ levAts L lv ∗ tabPts c ∗ fam (recvSt xb c j.val) ∗ fam (sendSt xb c j.val (j.val + 3)) ∗ owe c (Ow c (j.val + 3))
        ∗ owns (c : Thread nD τ) arg3 fullShare wv ∗ owns (c : Thread nD τ) arg4 fullShare X
        ∗ ((tabPts c ∗ fam (recvSt xb c (j.val + 1)) ∗ fam (sendSt xb c (j.val + 1) (j.val + 4)) ∗ owe c (Ow c (j.val + 4))
            ∗ owns (c : Thread nD τ) arg3 fullShare wv ∗ owns (c : Thread nD τ) arg4 fullShare (k0_pay3 (slotv xb c (c - j)) wv X))
          -∗ Q (BitVec.ofNat 32 j.val)))
      ⊢ wpk c (k0_part3_skel (F := F) (pt j) (Memref.whole main_v6) (Memref.isWhole_whole _) (Memref.whole main_v1) (Memref.isWhole_whole _)
          arg3 h3 arg4 h4 (Memref.whole cc0_scratch0) (Memref.isWhole_whole _) cc0_scratch1 cc0_scratch2 cc0_scratch3) Q := by
  unfold wpk k0_part3_skel
  dsimp only
  iintro ⟨#HI, #Hl, Ht, Hr, Hs, Ho, H3, H4, HQ⟩
  rw [wp_bind]
  iapply (step_tab c) $$ [-]
  isplitl [Ht]
  · iexact Ht
  iintro Ht
  rw [wp_bind]
  iapply (wp_assume 𝒱₀ (c : Thread nD τ) none Set.univ (chk_word j c))
  dsimp only
  rw [wp_ret]
  imodintro
  rw [dif_neg (show ¬ k0_cond1 (pt j) = 1#1 from fun h => hj ((cond1_iff j).mp h)), dif_pos ((cond2_iff j).mpr hj)]
  rw [wp_bind]
  iapply (step_wait_recv xb κ c j hj (j.val + 3) (by omega) _ _ (c - j) (slice_slot (c - j) (off5_eq j c) _) _ (recv_sem (c - j) (off4_eq j c) _)) $$ [-]
  isplitl []
  · iexact HI
  isplitl []
  · iexact Hl
  isplitl [Hr]
  · iexact Hr
  isplitl [Ho]
  · iexact Ho
  iintro ⟨Hr, Ho⟩
  rw [wp_bind]
  iapply (step_load_fam c xb (j.val + 1) j hj (Nat.lt_succ_self _) (off6_eq j c) _) $$ [-]
  isplitl [Hr]
  · iexact Hr
  iintro Hr
  rw [wp_bind]
  iapply (step_load_stage c arg3 wv _) $$ [-]
  isplitl [H3]
  · iexact H3
  iintro H3
  rw [dif_neg (show ¬ k0_cond3 (pt j) = 1#1 from fun h => hj ((cond3_iff j).mp h)), dif_pos ((cond4_iff j).mpr hj)]
  rw [wp_bind]
  iapply (step_load_stage c arg4 X _) $$ [-]
  isplitl [H4]
  · iexact H4
  iintro H4
  rw [wp_bind]
  iapply (step_load_stage c arg4 X _) $$ [-]
  isplitl [H4]
  · iexact H4
  iintro H4
  rw [wp_bind]
  iapply (step_store_stage c arg4 X (k0_pay3 (slotv xb c (c - j)) wv X) _) $$ [-]
  isplitl [H4]
  · iexact H4
  iintro H4
  by_cases h5 : j.val + 3 < 16
  · have e3 : (j + 3).val = j.val + 3 := by rw [Fin.val_add]; exact Nat.mod_eq_of_lt h5
    have hne : j + 3 ≠ 0 := fun h => by rw [h] at e3; exact absurd e3 (by show ¬ (0 = j.val + 3); omega)
    rw [dif_pos ((cond5_iff j).mpr ⟨hj, h5⟩)]
    rw [wp_bind]
    iapply (step_send xb κ c j.val (j + 3) hne (by omega) _ (Fin.ext (dev19_eq j c)) _ (slice_src (c + (j + 3)) (off10_eq j c) _)
      _ (slice_slot c (off9_eq c) _) _ _ (send_sem (j + 3) (off7_eq j h5) _) (recv_sem c (off8_eq c) _)) $$ [-]
    rw [e3]
    isplitl []
    · iexact HI
    isplitl [Hs]
    · iexact Hs
    isplitl [Ho]
    · iexact Ho
    iintro ⟨Hs, Ho⟩
    rw [dif_pos ((cond6_iff j).mpr hj)]
    rw [wp_bind]
    iapply (step_wait_send xb κ c (j.val + 3 + 1) j hj (by omega) (j.val + 3 + 1) _ (c + j) _ (slice_src (c + j) (off12_eq j c) _) _ (send_sem j (off11_eq j) _)) $$ [-]
    isplitl []
    · iexact HI
    isplitl []
    · iexact Hl
    isplitl [Hs]
    · iexact Hs
    isplitl [Ho]
    · iexact Ho
    iintro ⟨Hs, Ho⟩
    iapply (step_pure c)
    iapply HQ
    isplitl [Ht]; iexact Ht
    isplitl [Hr]; iexact Hr
    isplitl [Hs]; iexact Hs
    isplitl [Ho]; iexact Ho
    isplitl [H3]; iexact H3
    iexact H4
  · rw [dif_neg (show ¬ k0_cond5 (pt j) = 1#1 from fun h => h5 ((cond5_iff j).mp h).2), dif_pos ((cond6_iff j).mpr hj)]
    rw [show sendSt xb c j.val (j.val + 3) = sendSt xb c j.val (j.val + 4) from
      funext fun i => sendSt_past xb c j.val (j.val + 3) (j.val + 4) (by omega) (by omega) i,
      show Ow c (j.val + 3) = Ow c (j.val + 4) from (Ow_end c _ (by omega)).trans (Ow_end c _ (by omega)).symm]
    rw [wp_bind]
    iapply (step_wait_send xb κ c (j.val + 4) j hj (by omega) (j.val + 4) _ (c + j) _ (slice_src (c + j) (off12_eq j c) _) _ (send_sem j (off11_eq j) _)) $$ [-]
    isplitl []
    · iexact HI
    isplitl []
    · iexact Hl
    isplitl [Hs]
    · iexact Hs
    isplitl [Ho]
    · iexact Ho
    iintro ⟨Hs, Ho⟩
    iapply (step_pure c)
    iapply HQ
    isplitl [Ht]; iexact Ht
    isplitl [Hr]; iexact Hr
    isplitl [Hs]; iexact Hs
    isplitl [Ho]; iexact Ho
    isplitl [H3]; iexact H3
    iexact H4

end Cert.KernelIdeal.Exch

end
-- ==== Proof.Body.lean ====
/- The kernel's body at the first grid point and at a later one. -/
module

public import proofs.«01_k».proof.Proof.BodyFirst
public import proofs.«01_k».proof.Proof.BodyStep

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xb : XB F) (κ : GSem nD τ sig → ℕ) (c : Dev nD)

/-- The activation, applied at the last point only. -/
def fin (j : Fin 16) (Y : Vec F S512x4096 .f32) : Vec F S512x4096 .f32 := if j = 15 then k0_pay1 Y else Y

abbrev body (j : Fin 16) (arg3 arg4 : Memref sig .tc .vmem S512x4096 .f32) (h3 : arg3.IsWhole) (h4 : arg4.IsWhole) :
    Prog (TpuEff nD τ sig (Elt F) Λ₀ .tc) PUnit :=
  cc0_body (F := F) (pt j) (Memref.whole main_v6) (Memref.isWhole_whole _) (Memref.whole main_v1) (Memref.isWhole_whole _)
    arg3 h3 arg4 h4 (Memref.whole cc0_scratch0) (Memref.isWhole_whole _) cc0_scratch1 cc0_scratch2 cc0_scratch3

theorem body_pos (j : Fin 16) (hj : j ≠ 0) (arg3 arg4 : Memref sig .tc .vmem S512x4096 .f32) (h3 : arg3.IsWhole) (h4 : arg4.IsWhole)
    (wv X : S512x4096.Idx → Elt F .f32) (Q : PUnit → sProp 𝕄) :
    iprop(Invs xb κ ∗ levAts L lv ∗ tabPts c ∗ fam (recvSt xb c j.val) ∗ fam (sendSt xb c j.val (j.val + 3)) ∗ owe c (Ow c (j.val + 3))
        ∗ owns (c : Thread nD τ) arg3 fullShare wv ∗ owns (c : Thread nD τ) arg4 fullShare X
        ∗ ((tabPts c ∗ fam (recvSt xb c (j.val + 1)) ∗ fam (sendSt xb c (j.val + 1) (j.val + 4)) ∗ owe c (Ow c (j.val + 4))
            ∗ owns (c : Thread nD τ) arg3 fullShare wv ∗ owns (c : Thread nD τ) arg4 fullShare (fin j (k0_pay3 (slotv xb c (c - j)) wv X)))
          -∗ Q ⟨⟩))
      ⊢ wpk c (body j arg3 arg4 h3 h4) Q := by
  unfold wpk body
  rw [cc0_body_eq_skeleton]
  unfold cc0_body_skel
  rw [wp_bind, k0_part3_eq_skeleton]
  iintro ⟨HI, Hl, Ht, Hr, Hs, Ho, H3, H4, HQ⟩
  iapply (tail_pos xb κ c j hj arg3 arg4 h3 h4 wv X) $$ [-]
  isplitl [HI]; iexact HI
  isplitl [Hl]; iexact Hl
  isplitl [Ht]; iexact Ht
  isplitl [Hr]; iexact Hr
  isplitl [Hs]; iexact Hs
  isplitl [Ho]; iexact Ho
  isplitl [H3]; iexact H3
  isplitl [H4]; iexact H4
  iintro ⟨Ht, Hr, Hs, Ho, H3, H4⟩
  by_cases h15 : j = 15
  · rw [show (fin j (k0_pay3 (slotv xb c (c - j)) wv X) : Vec F S512x4096 .f32) = k0_pay1 (k0_pay3 (slotv xb c (c - j)) wv X) from if_pos h15]
    rw [dif_pos ((cond7_iff j).mpr h15)]
    rw [wp_bind]
    iapply (step_load_stage c arg4 _ _) $$ [-]
    isplitl [H4]; iexact H4
    iintro H4
    rw [wp_bind]
    iapply (step_load_stage c arg4 _ _) $$ [-]
    isplitl [H4]; iexact H4
    iintro H4
    rw [wp_bind]
    iapply (step_store_stage c arg4 _ (k0_pay1 (k0_pay3 (slotv xb c (c - j)) wv X)) _) $$ [-]
    isplitl [H4]; iexact H4
    iintro H4
    iapply (step_pure c)
    iapply HQ
    isplitl [Ht]; iexact Ht
    isplitl [Hr]; iexact Hr
    isplitl [Hs]; iexact Hs
    isplitl [Ho]; iexact Ho
    isplitl [H3]; iexact H3
    iexact H4
  · rw [show (fin j (k0_pay3 (slotv xb c (c - j)) wv X) : Vec F S512x4096 .f32) = k0_pay3 (slotv xb c (c - j)) wv X from if_neg h15]
    rw [dif_neg (show ¬ k0_cond7 (pt j) = 1#1 from fun h => h15 ((cond7_iff j).mp h))]
    iapply (step_pure c)
    iapply HQ
    isplitl [Ht]; iexact Ht
    isplitl [Hr]; iexact Hr
    isplitl [Hs]; iexact Hs
    isplitl [Ho]; iexact Ho
    isplitl [H3]; iexact H3
    iexact H4

theorem body_first (arg3 arg4 : Memref sig .tc .vmem S512x4096 .f32) (h3 : arg3.IsWhole) (h4 : arg4.IsWhole)
    (wv X : S512x4096.Idx → Elt F .f32) (Q : PUnit → sProp 𝕄) :
    iprop(Invs xb κ ∗ sigAt c 1 ∗ locRes xb c ∗ tabPts c ∗ atPos ER (localCell c) 0 ∅ 0
        ∗ owns (c : Thread nD τ) arg3 fullShare wv ∗ owns (c : Thread nD τ) arg4 fullShare X
        ∗ ((tabPts c ∗ fam (sendSt xb c 1 4) ∗ owe c (Ow c 4) ∗ localSt xb c ∗ atPos ER (barCell c) 1 ∅ 0
            ∗ owns (c : Thread nD τ) arg3 fullShare wv ∗ owns (c : Thread nD τ) arg4 fullShare (k0_pay2 (slotv xb c c) wv))
          -∗ Q ⟨⟩))
      ⊢ wpk c (body 0 arg3 arg4 h3 h4) Q := by
  unfold wpk body
  rw [cc0_body_eq_skeleton]
  unfold cc0_body_skel
  rw [wp_bind, k0_part3_eq_skeleton]
  iintro ⟨HI, Hs, Hl, Ht, Ha, H3, H4, HQ⟩
  iapply (tail_first xb κ c arg3 arg4 h3 h4 wv X) $$ [-]
  isplitl [HI]; iexact HI
  isplitl [Hs]; iexact Hs
  isplitl [Hl]; iexact Hl
  isplitl [Ht]; iexact Ht
  isplitl [Ha]; iexact Ha
  isplitl [H3]; iexact H3
  isplitl [H4]; iexact H4
  iintro H
  rw [dif_neg (show ¬ k0_cond7 (pt 0) = 1#1 from fun h => absurd ((cond7_iff 0).mp h) (by decide))]
  iapply (step_pure c)
  iapply HQ
  iexact H

end Cert.KernelIdeal.Exch

end
-- ==== Proof.OpenClose.lean ====
/- The kernel's own semaphores put into their cells at entry and taken back at the end; the buffers cut into the rows
exchanged and put together again. -/
module

public import proofs.«01_k».proof.Proof.Body

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xb : XB F) (κ : GSem nD τ sig → ℕ) (c : Dev nD)

/-! ## Families -/

/-- A family over the nonzero offsets. -/
abbrev famNZ (P : Fin 16 → sProp 𝕄) : sProp 𝕄 := bigSep (Finset.univ.erase 0) P

def subEquiv : Fin 16 ≃ Fin 16 := ⟨fun o => c - o, fun o => c - o, fun o => sub_sub_self' c o, fun o => sub_sub_self' c o⟩
def addEquiv : Fin 16 ≃ Fin 16 := ⟨fun o => c + o, fun k => k - c, fun o => add_sub_self c o, fun k => add_sub_self' c k⟩

theorem fam_sub (P : Fin 16 → sProp 𝕄) : fam P = fam (fun o => P (c - o)) := bigSep_univ_equiv (subEquiv c) P
theorem fam_add (P : Fin 16 → sProp 𝕄) : fam P = fam (fun o => P (c + o)) := bigSep_univ_equiv (addEquiv c) P

def sEmb : Fin 16 ↪ Fin 33 := ⟨sIx, fun o o' h => Fin.ext (by have e : o.val = o'.val := congrArg (fun x : Fin 33 => x.val) h; exact e)⟩
def rEmb : Fin 16 ↪ Fin 33 := ⟨rIx, fun o o' h => Fin.ext (by have e : 16 + o.val = 16 + o'.val := congrArg (fun x : Fin 33 => x.val) h; omega)⟩

theorem own_split (P : Fin 33 → sProp 𝕄) :
    bigSep Finset.univ P = iprop(fam (fun o => P (sIx o)) ∗ fam (fun k => P (rIx k)) ∗ P lIx) := by
  have hu : (Finset.univ : Finset (Fin 33)) = Finset.univ.map sEmb ∪ (Finset.univ.map rEmb ∪ {lIx}) := by decide
  rw [hu, bigSep_union (by decide), bigSep_union (by decide), bigSep_map, bigSep_map, bigSep_singleton]
  rfl

/-- An update of each member is one of the family. -/
theorem fam_upd {I : Type} [DecidableEq I] (s : Finset I) (P : sProp 𝕄) [Persistent P] (Φ Ψ : I → sProp 𝕄)
    (h : ∀ i ∈ s, iprop(P ∗ Φ i) ⊢ iprop(|={Set.univ}=> Ψ i)) : iprop(P ∗ bigSep s Φ) ⊢ iprop(|={Set.univ}=> bigSep s Ψ) := by
  induction s using Finset.induction_on with
  | empty =>
    rw [bigSep_empty, bigSep_empty]
    iintro ⟨-, H⟩
    imodintro
    iexact H
  | insert i s hi ih =>
    rw [bigSep_insert hi, bigSep_insert hi]
    show iprop(P ∗ Φ i ∗ bigSep s Φ) ⊢ iprop(|={Set.univ}=> (Ψ i ∗ bigSep s Ψ))
    have h1 := h i (Finset.mem_insert_self i s)
    have h2 := ih fun k hk => h k (Finset.mem_insert_of_mem hk)
    iintro ⟨#HP, Hi, Hs⟩
    ihave H1 := h1 $$ [Hi]
    · isplitr; · iexact HP
      iexact Hi
    ihave H2 := h2 $$ [Hs]
    · isplitr; · iexact HP
      iexact Hs
    imod H1
    imod H2
    imodintro
    isplitl [H1]; · iexact H1
    iexact H2

theorem famNZ_sep (Φ Ψ : Fin 16 → sProp 𝕄) : iprop(famNZ Φ ∗ famNZ Ψ) = famNZ fun o => iprop(Φ o ∗ Ψ o) := (bigSep_sep' _ _ _).symm

/-! ## Opening -/

theorem open_own :
    iprop(Invs xb κ ∗ bigSep Finset.univ (fun k => iprop(openTok ER (ownCell c k) ∗ semVal (ownCell c k) 0)))
      ⊢ iprop(|={Set.univ}=> bigSep Finset.univ fun k => iprop(atPos ER (ownCell c k) 0 ∅ 0 ∗ reached ER (ownCell c k) 0)) := by
  refine fam_upd Finset.univ (Invs xb κ) _ _ fun k _ => ?_
  iintro ⟨#HI, Ht, Hv⟩
  iapply (Rounds.cell_open ER (exRd xb) (g := ownCell c k) (Set.mem_univ (κ (ownCell c k))))
  isplitr; · iapply (inv_own xb κ c k); iexact HI
  isplitl [Ht]; · iexact Ht
  iexact Hv

/-! ## Closing -/

theorem close_one (g : GSem nD τ sig) (R : ℕ) (hR : ∀ r, R ≤ r → (exRd xb).duties g r = ∅) :
    iprop(cellInv ER (exRd xb) (κ g) g ∗ atPos ER g R ∅ 0) ⊢ (iprop(|={Set.univ}=> semVal g 0) : sProp 𝕄) :=
  Rounds.cell_close ER (exRd xb) (Set.mem_univ (κ g)) id hR

theorem close_send (b : ℕ) :
    iprop(Invs xb κ ∗ fam (sendSt xb c 16 b))
      ⊢ iprop(|={Set.univ}=> fam (fun o => iprop((if o = 0 then iprop(emp) else srcPts xb c (c + o)) ∗ semVal (sendCell c o) 0))) := by
  refine fam_upd Finset.univ (Invs xb κ) _ _ fun o _ => ?_
  by_cases ho : o = 0
  · subst ho
    rw [if_pos rfl, show sendSt xb c 16 b 0 = (atPos ER (sendCell c 0) 0 ∅ 0 : sProp 𝕄) from if_pos rfl]
    iintro ⟨#HI, Ha⟩
    ihave H := (close_one xb κ (sendCell c 0) 0 fun r _ => duties_send0 xb c r) $$ [Ha]
    · isplitr; · iapply (inv_own xb κ c (sIx 0)); iexact HI
      iexact Ha
    imod H
    imodintro
    isplitr; · iempintro
    iexact H
  · rw [if_neg ho, sendSt_done xb c 16 b o ho o.isLt]
    iintro ⟨#HI, Hs, Ha⟩
    ihave H := (close_one xb κ (sendCell c o) 1 fun r hr => duties_later xb _ r hr) $$ [Ha]
    · isplitr; · iapply (inv_own xb κ c (sIx o)); iexact HI
      iexact Ha
    imod H
    imodintro
    isplitl [Hs]; · iexact Hs
    iexact H

theorem sub_zero' : c - 0 = c := by revert c; decide

theorem close_recv :
    iprop(Invs xb κ ∗ fam (recvSt xb c 16))
      ⊢ iprop(|={Set.univ}=> fam (fun o => iprop((if o = 0 then iprop(emp) else slotPts c (c - o) (gath xb c)) ∗ semVal (recvCell c (c - o)) 0))) := by
  refine fam_upd Finset.univ (Invs xb κ) _ _ fun o _ => ?_
  by_cases ho : o = 0
  · subst ho
    rw [if_pos rfl, show recvSt xb c 16 0 = (atPos ER (recvCell c (c - 0)) 0 ∅ 0 : sProp 𝕄) from if_pos rfl]
    iintro ⟨#HI, Ha⟩
    ihave H := (close_one xb κ (recvCell c (c - 0)) 0 fun r _ => by rw [sub_zero' c]; exact duties_recv0 xb c r) $$ [Ha]
    · isplitr; · iapply (inv_own xb κ c (rIx (c - 0))); iexact HI
      iexact Ha
    imod H
    imodintro
    isplitr; · iempintro
    iexact H
  · rw [if_neg ho, recvSt_done xb c 16 o ho o.isLt]
    iintro ⟨#HI, Hs, Ha⟩
    ihave H := (close_one xb κ (recvCell c (c - o)) 1 fun r hr => duties_later xb _ r hr) $$ [Ha]
    · isplitr; · iapply (inv_own xb κ c (rIx (c - o))); iexact HI
      iexact Ha
    imod H
    imodintro
    isplitl [Hs]; · iexact Hs
    iexact H

/-! ## The buffers cut and joined -/

abbrev commPts (f : (cc0_scratch0 : Ref sig .tc).ty.Contents (Elt F)) : sProp 𝕄 := ((c : Thread nD τ).loc cc0_scratch0) ↦{fullShare} f
abbrev xPts : sProp 𝕄 := ((c : Thread nD τ).loc main_v1) ↦{fullShare} (xb c : (main_v1 : Ref sig .tc).ty.Contents (Elt F))

theorem comm_cut (f : (cc0_scratch0 : Ref sig .tc).ty.Contents (Elt F)) : (commPts c f : sProp 𝕄) = fam fun k => slotPts c k f := by
  have h := Ring.pointsTo_blocks (Ix := Unit) (Name := ℕ) (U := UU) (Lvl := ℕ) (ℓ := (c : Thread nD τ).loc cc0_scratch0) (Val := Elt F) (fun k => (rowsR k).set) rows_disjoint rows_cover (q := fullShare) f
  refine h.trans (bigSep_congr fun k _ => ?_)
  unfold slotPts
  rw [slot_set]

theorem x_cut : (xPts xb c : sProp 𝕄) = fam fun k => srcPts xb c k := by
  have h := Ring.pointsTo_blocks (Ix := Unit) (Name := ℕ) (U := UU) (Lvl := ℕ) (ℓ := (c : Thread nD τ).loc main_v1) (Val := Elt F) (fun k => (rowsR k).set) rows_disjoint rows_cover (q := fullShare) (xb c)
  refine h.trans (bigSep_congr fun k _ => ?_)
  unfold srcPts
  rw [src_set]

/-! ## The last point -/

theorem fill_zero (P : Fin 16 → sProp 𝕄) : iprop(P 0 ∗ fam (fun o => if o = 0 then iprop(emp) else P o)) ⊢ fam P := by
  rw [fam_at P 0, fam_at (fun o => if o = 0 then iprop(emp) else P o) 0,
    bigSep_congr (s := Finset.univ.erase (0 : Fin 16)) (Ψ := P) fun o ho => if_neg (Finset.ne_of_mem_erase ho)]
  iintro ⟨H0, -, H⟩
  isplitl [H0]; · iexact H0
  iexact H

theorem add_zero' : c + 0 = c := by revert c; decide

theorem join_x : iprop(srcPts xb c c ∗ fam (fun o => if o = 0 then iprop(emp) else srcPts xb c (c + o))) ⊢ xPts xb c := by
  have h := fill_zero (fun o => srcPts xb c (c + o))
  rw [add_zero' c] at h
  rw [x_cut, fam_add c (fun k => srcPts xb c k)]
  exact h

theorem join_comm : iprop(slotPts c c (gath xb c) ∗ fam (fun o => if o = 0 then iprop(emp) else slotPts c (c - o) (gath xb c)))
    ⊢ commPts c (gath xb c) := by
  have h := fill_zero (fun o => slotPts c (c - o) (gath xb c))
  rw [sub_zero' c] at h
  rw [comm_cut, fam_sub c (fun k => slotPts c k (gath xb c))]
  exact h

/-- After the last point: the counters at zero, the buffers whole. -/
def done : sProp 𝕄 :=
  iprop(xPts xb c ∗ (∃ f, commPts (F := F) c f) ∗ bigSep Finset.univ (fun k => semVal (ownCell c k) 0) ∗ semVal (barCell c) 0)

theorem finish (b : ℕ) :
    iprop(Invs xb κ ∗ fam (recvSt xb c 16) ∗ fam (sendSt xb c 16 b) ∗ localSt xb c ∗ atPos ER (barCell c) 1 ∅ 0)
      ⊢ iprop(|={Set.univ}=> done xb c) := by
  unfold localSt
  iintro ⟨#HI, Hr, Hs, ⟨Hsl, Hx, HaL⟩, HaB⟩
  ihave H1 := (close_recv xb κ c) $$ [Hr]
  · isplitr; · iexact HI
    iexact Hr
  ihave H2 := (close_send xb κ c b) $$ [Hs]
  · isplitr; · iexact HI
    iexact Hs
  ihave H3 := (close_one xb κ (localCell c) 1 fun r hr => duties_later xb _ r hr) $$ [HaL]
  · isplitr; · iapply (inv_own xb κ c lIx); iexact HI
    iexact HaL
  ihave H4 := (close_one xb κ (barCell c) 1 fun r hr => duties_later xb _ r hr) $$ [HaB]
  · isplitr; · iapply (inv_bar xb κ c); iexact HI
    iexact HaB
  imod H1
  imod H2
  imod H3
  imod H4
  imodintro
  ihave H1 := (Entails.of_eq (bigSep_sep' _ _ _)) $$ H1
  ihave H2 := (Entails.of_eq (bigSep_sep' _ _ _)) $$ H2
  icases H1 with ⟨H1a, H1b⟩
  icases H2 with ⟨H2a, H2b⟩
  unfold done
  isplitl [Hx H2a]
  · iapply (join_x xb c)
    isplitl [Hx]; · iexact Hx
    iexact H2a
  isplitl [Hsl H1a]
  · iexists (gath xb c)
    iapply (join_comm xb c)
    isplitl [Hsl]; · iexact Hsl
    iexact H1a
  isplitl [H1b H2b H3]
  · rw [own_split (fun k => (semVal (ownCell c k) 0 : sProp 𝕄)), fam_sub c (fun k => (semVal (ownCell c (rIx k)) 0 : sProp 𝕄))]
    isplitl [H2b]; · iexact H2b
    isplitl [H1b]; · iexact H1b
    iexact H3
  iexact H4

/-! ## The first point -/

/-- What the launch deals to device `c`. -/
def dealt : sProp 𝕄 :=
  iprop(bigSep Finset.univ (fun k => openTok ER (ownCell c k))
    ∗ famNZ (fun o => dutyTok ER (barCell (c + o)) 0 c)
    ∗ famNZ (fun o => dutyTok ER (recvCell (c + o) c) 0 0)
    ∗ famNZ (fun o => dutyTok ER (sendCell c o) 0 0)
    ∗ dutyTok ER (localCell c) 0 0
    ∗ cred (tallyAt (barCell c) () 15) ∗ famNZ (fun o => cred (tallyAt (recvCell c (c - o)) () NB))
    ∗ atPos ER (barCell c) 0 ∅ 0)

/-- The invariants, and the barrier's cells being open. -/
def Recs : sProp 𝕄 := iprop(Invs xb κ ∗ bigSep Finset.univ fun p : Dev nD => reached ER (barCell p) 0)
instance : Persistent (Recs xb κ) := by unfold Recs; infer_instance

/-- What the kernel is entered with besides its buffers and tables. -/
def entered : sProp 𝕄 :=
  iprop(∃ κ, Recs xb κ ∗ levAts L lv
    ∗ famNZ (fun o => iprop(dutyTok ER (barCell (c + o)) 0 c ∗ reached ER (recvCell c (c + o)) 0))
    ∗ fam (preSt xb c) ∗ fam (recvSt xb c 1) ∗ srcPts xb c c ∗ dutyTok ER (localCell c) 0 0 ∗ reached ER (localCell c) 0
    ∗ atPos ER (localCell c) 0 ∅ 0 ∗ cred (tallyAt (barCell c) () 15) ∗ atPos ER (barCell c) 0 ∅ 0)

theorem recvSt_one (o : Fin 16) (ho : o ≠ 0) :
    recvSt xb c 1 o = iprop(cred (tallyAt (recvCell c (c - o)) () NB) ∗ atPos ER (recvCell c (c - o)) 0 ∅ 0) := by
  have : o.val ≠ 0 := fun h => ho (Fin.ext h)
  unfold recvSt; rw [if_neg ho, if_neg (by omega)]

theorem preSt_ne (o : Fin 16) (ho : o ≠ 0) :
    preSt xb c o = iprop(srcPts xb c (c + o) ∗ dutyTok ER (sendCell c o) 0 0 ∗ reached ER (sendCell c o) 0
      ∗ dutyTok ER (recvCell (c + o) c) 0 0 ∗ atPos ER (sendCell c o) 0 ∅ 0) := if_neg ho

theorem enter :
    iprop(Recs xb κ ∗ levAts L lv ∗ dealt c ∗ bigSep Finset.univ (fun k => semVal (ownCell c k) 0) ∗ xPts xb c)
      ⊢ iprop(|={Set.univ}=> entered xb c) := by
  unfold dealt
  iintro ⟨#HR, #Hl, ⟨Hop, HtB, HtR, HtS, HtL, HcB, HcR, HaB⟩, Hv, Hx⟩
  ihave HI := (show Recs xb κ ⊢ Invs xb κ from by unfold Recs; iintro ⟨H, -⟩; iexact H) $$ HR
  ihave H := (open_own xb κ c) $$ [HI Hop Hv]
  · isplitl [HI]; · iexact HI
    iapply (Entails.of_eq (bigSep_sep' _ _ _).symm)
    isplitl [Hop]; · iexact Hop
    iexact Hv
  imod H
  ihave H := (Entails.of_eq (own_split (fun k => (iprop(atPos ER (ownCell c k) 0 ∅ 0 ∗ reached ER (ownCell c k) 0) : sProp 𝕄)))) $$ H
  icases H with ⟨HS, HV, HLa, #HLr⟩
  ihave HS := (Entails.of_eq (bigSep_sep' _ _ _)) $$ HS
  icases HS with ⟨HSa, #HSr⟩
  ihave HV := (Entails.of_eq (bigSep_sep' _ _ _)) $$ HV
  icases HV with ⟨HVa, #HVr⟩
  imodintro
  unfold entered
  iexists κ
  isplitr; · iexact HR
  isplitr; · iexact Hl
  isplitl [HtB]
  · iapply (Entails.of_eq (famNZ_sep _ _))
    isplitl [HtB]; · iexact HtB
    ihave HVr' := (Entails.of_eq (fam_add c (fun k => (reached ER (recvCell c k) 0 : sProp 𝕄)))) $$ HVr
    ihave HVr' := (Entails.of_eq (fam_at (fun k => (reached ER (recvCell c (c + k)) 0 : sProp 𝕄)) 0)) $$ HVr'
    icases HVr' with ⟨-, H⟩
    iexact H
  ihave Hx := (Entails.of_eq ((x_cut xb c).trans (fam_add c _))) $$ Hx
  ihave Hx := (Entails.of_eq (fam_at (fun o => srcPts xb c (c + o)) 0)) $$ Hx
  icases Hx with ⟨Hx0, Hx⟩
  isplitl [Hx HSa HtS HtR]
  · ihave HSa := (Entails.of_eq (fam_at (fun o => (atPos ER (sendCell c o) 0 ∅ 0 : sProp 𝕄)) 0)) $$ HSa
    icases HSa with ⟨HSa0, HSa⟩
    ihave HSr' := (Entails.of_eq (fam_at (fun o => (reached ER (sendCell c o) 0 : sProp 𝕄)) 0)) $$ HSr
    icases HSr' with ⟨-, HSr'⟩
    iapply (Entails.of_eq (fam_at (preSt xb c) 0).symm)
    isplitl [HSa0]
    · iapply (Entails.of_eq (show (atPos ER (sendCell c 0) 0 ∅ 0 : sProp 𝕄) = preSt xb c 0 from (if_pos rfl).symm)); iexact HSa0
    iapply (Entails.of_eq (bigSep_congr (s := Finset.univ.erase (0 : Fin 16)) (fun o ho => preSt_ne xb c o (Finset.ne_of_mem_erase ho))).symm)
    iapply (Entails.of_eq (famNZ_sep _ _))
    isplitl [Hx]; · iexact Hx
    iapply (Entails.of_eq (famNZ_sep _ _))
    isplitl [HtS]; · iexact HtS
    iapply (Entails.of_eq (famNZ_sep _ _))
    isplitl [HSr']; · iexact HSr'
    iapply (Entails.of_eq (famNZ_sep _ _))
    isplitl [HtR]; · iexact HtR
    iexact HSa
  isplitl [HVa HcR]
  · ihave HVa := (Entails.of_eq (fam_sub c (fun k => (atPos ER (recvCell c k) 0 ∅ 0 : sProp 𝕄)))) $$ HVa
    ihave HVa := (Entails.of_eq (fam_at (fun o => (atPos ER (recvCell c (c - o)) 0 ∅ 0 : sProp 𝕄)) 0)) $$ HVa
    icases HVa with ⟨HVa0, HVa⟩
    iapply (Entails.of_eq (fam_at (recvSt xb c 1) 0).symm)
    isplitl [HVa0]
    · iapply (Entails.of_eq (show (atPos ER (recvCell c (c - 0)) 0 ∅ 0 : sProp 𝕄) = recvSt xb c 1 0 from (if_pos rfl).symm)); iexact HVa0
    iapply (Entails.of_eq (bigSep_congr (s := Finset.univ.erase (0 : Fin 16)) (fun o ho => recvSt_one xb c o (Finset.ne_of_mem_erase ho))).symm)
    iapply (Entails.of_eq (famNZ_sep _ _))
    isplitl [HcR]; · iexact HcR
    iexact HVa
  isplitl [Hx0]
  · rw [add_zero' c]; iexact Hx0
  isplitl [HtL]; · iexact HtL
  isplitr; · iexact HLr
  isplitl [HLa]; · iexact HLa
  isplitl [HcB]; · iexact HcB
  iexact HaB

/-- The invariant before the first point. -/
def before : sProp 𝕄 :=
  iprop(∃ κ, Invs xb κ ∗ fam (sigSt (F := F) c 1) ∗ locRes xb c ∗ tabPts c ∗ atPos ER (localCell c) 0 ∅ 0 ∗ fam (recvSt xb c 1))

theorem sigSt_one (o : Fin 16) (ho : o ≠ 0) :
    sigSt (F := F) c 1 o = iprop(dutyTok ER (barCell (c + o)) 0 c ∗ (∃ f, slotPts c (c + o) f) ∗ reached ER (barCell (c + o)) 0 ∗ reached ER (recvCell c (c + o)) 0) := by
  have : o.val ≠ 0 := fun h => ho (Fin.ext h)
  unfold sigSt; rw [if_pos ⟨ho, by omega⟩]

theorem slots_some (f : (cc0_scratch0 : Ref sig .tc).ty.Contents (Elt F)) :
    (famNZ (fun o => slotPts c (c + o) f) : sProp 𝕄) ⊢ famNZ (fun o => iprop(∃ f, slotPts c (c + o) f)) := by
  refine bigSep_mono fun o _ => ?_
  show (slotPts c (c + o) f : sProp 𝕄) ⊢ iprop(∃ f, slotPts c (c + o) f)
  iintro H
  iexists f
  iexact H

theorem entered_before : iprop(entered xb c ∗ tabPts c ∗ (∃ f, commPts (F := F) c f)) ⊢ before xb c := by
  unfold entered before Recs
  iintro ⟨⟨%κ, ⟨#HI, #HrB⟩, Hl, HtB, Hp, Hr, Hx, HtL, HrL, HaL, HcB, HaB⟩, Ht, ⟨%f, Hf⟩⟩
  ihave Hf := (Entails.of_eq ((comm_cut c f).trans (fam_add c _))) $$ Hf
  ihave Hf := (Entails.of_eq (fam_at (fun o => (slotPts c (c + o) f : sProp 𝕄)) 0)) $$ Hf
  icases Hf with ⟨Hf0, Hf⟩
  ihave HtB := (Entails.of_eq (famNZ_sep _ _).symm) $$ HtB
  icases HtB with ⟨HtB, HrV⟩
  ihave HrB' := (Entails.of_eq (fam_add c (fun p => (reached ER (barCell p) 0 : sProp 𝕄)))) $$ HrB
  ihave HrB' := (Entails.of_eq (fam_at (fun o => (reached ER (barCell (c + o)) 0 : sProp 𝕄)) 0)) $$ HrB'
  icases HrB' with ⟨-, HrB'⟩
  iexists κ
  isplitr; · iexact HI
  isplitl [HtB HrV Hf HrB']
  · iapply (Entails.of_eq (fam_at (sigSt c 1) 0).symm)
    isplitr
    · iapply (show (iprop(emp) : sProp 𝕄) ⊢ sigSt c 1 0 from by unfold sigSt; rw [if_neg (fun h => h.1 rfl)])
      iempintro
    iapply (Entails.of_eq (bigSep_congr (s := Finset.univ.erase (0 : Fin 16)) (fun o ho => sigSt_one (F := F) c o (Finset.ne_of_mem_erase ho))).symm)
    iapply (Entails.of_eq (famNZ_sep _ _))
    isplitl [HtB]; · iexact HtB
    iapply (Entails.of_eq (famNZ_sep _ _))
    isplitl [Hf]
    · iapply (slots_some c f)
      iexact Hf
    iapply (Entails.of_eq (famNZ_sep _ _))
    isplitl [HrB']; · iexact HrB'
    iexact HrV
  isplitl [Hl HcB HaB Hp Hf0 Hx HtL HrL]
  · isplitl [Hl]; · iexact Hl
    isplitl [HcB]; · iexact HcB
    isplitl [HaB]; · iexact HaB
    isplitl [Hp]; · iexact Hp
    isplitl [Hf0]
    · iexists f; rw [add_zero' c]; iexact Hf0
    isplitl [Hx]; · iexact Hx
    isplitl [HtL]; · iexact HtL
    iexact HrL
  isplitl [Ht]; · iexact Ht
  isplitl [HaL]; · iexact HaL
  iexact Hr

end Cert.KernelIdeal.Exch

end
-- ==== Proof.Data.lean ====
/- The pipeline's proof data: what the table holds, which block of the weights each point fetches, what the accumulator
   holds after it, and the invariant between points. -/
module

public import proofs.«01_k».proof.Proof.Body
public import proofs.«01_k».proof.Proof.OpenClose
public import Idealize.ShloMosaic.Lib.Pipeline.Regions

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

/-- The prefetched table's contents on device `c`. -/
def tabs (c : Dev nD) : pre0.Contents (Elt F) := fun | 0 => tab c

theorem word_mod : ∀ c j : Fin 16,
    (Scalar.remsi (Scalar.subi (Scalar.addi (Dev.word (nD := 16) c) 16#32) (BitVec.ofNat 32 j.val)) 16#32).toNat = (c - j).val := by
  decide +kernel

theorem index_w (inb : ∀ a, (![0] : Fin 1 → ℕ) a + S1.size a ≤ S1.size a) (hn : S1.numel = 1) (c : Dev nD) (i : grid0.Coords) :
    cc0_transform_1 (F := F) inb hn (tabs c) i = ![((show Fin 16 from c) - (show Fin 16 from i 0)).val, 0] := by
  have h := word_mod (show Fin 16 from c) (show Fin 16 from i 0)
  unfold cc0_transform_1
  funext a
  match a with
  | 0 => exact h
  | 1 => rfl

theorem tab_ok (c : Dev nD) : ok0 (F := F) (tabs c) := by
  intro i
  refine ⟨?_, Or.inl rfl⟩
  rw [index_w]
  intro a
  have h := ((show Fin 16 from c) - (show Fin 16 from i 0)).isLt
  match a with
  | 0 =>
    show (((show Fin 16 from c) - (show Fin 16 from i 0)).val + 1) * 512 ≤ 8192
    omega
  | 1 => show (0 + 1) * 4096 ≤ 4096; omega

def adm (c : Dev nD) (p : Fin 1) : (pcfgs (F := F) p).Adm := ⟨tabs c, tab_ok c⟩

abbrev cfgc (c : Dev nD) : Pipeline.Cfg sig Λ₀ := Pipeline.pinD (pcfgs (F := F)) adm c 0

theorem index0 (c : Dev nD) (t : Fin grid0.N) : ((cfgc (F := F) c).win 0).index t = ![((show Fin 16 from c) - t.cast N_0).val, 0] := by
  show cc0_transform_1 (F := F) _ _ (tabs c) (grid0.coords t) = _
  rw [index_w, coords_eq]
  rfl

theorem sub_apart : ∀ c a b : Fin 16, a.val = b.val + 1 → (c - a).val ≠ (c - b).val := by decide

theorem fetch0 (c : Dev nD) (t : Fin grid0.N) : ((cfgc (F := F) c).win 0).fetch t = true := by
  unfold Pipeline.Window.fetch
  rw [Bool.and_eq_true]
  refine ⟨rfl, ?_⟩
  by_cases h : t.val = 0
  · simp [h]
  · rw [Bool.or_eq_true]
    right
    refine decide_eq_true ⟨Nat.pos_of_ne_zero h, fun e => ?_⟩
    rw [index0, index0] at e
    refine sub_apart (show Fin 16 from c) (t.cast N_0) (Fin.cast N_0 ⟨t.val - 1, lt_of_le_of_lt (Nat.sub_le _ _) t.isLt⟩) ?_ (congrFun e 0)
    show t.val = t.val - 1 + 1
    omega

theorem flush1 (c : Dev nD) (t : Fin grid0.N) : ((cfgc (F := F) c).win 1).flush t = decide (t.val = 15) := by
  revert t
  rw [show (∀ t : Fin grid0.N, ((cfgc (F := F) c).win 1).flush t = decide (t.val = 15))
    ↔ ∀ t : Fin grid0.N, Pipeline.Window.flushOf grid0 true cc0_transform_2 t = decide (t.val = 15) from Iff.rfl]
  decide +kernel

/-- Rows `512 k` to `512 k + 511` of the weights. -/
def wrow (W : (main_arg1 : Ref sig .tc).ty.Contents (Elt F)) (k : Fin 16) : S512x4096.Idx → Elt F .f32 :=
  fun x => W (Rect.emb (s := S8192x4096) (Rect.unit (s := S8192x4096) ![512 * k.val, 0] S512x4096.size (by
    intro a
    have := k.isLt
    match a with
    | 0 => show 512 * k.val + 512 ≤ 8192; omega
    | 1 => show 0 + 4096 ≤ 4096; omega)) x)

/-- The accumulator after point `n`. -/
def acc (xb : XB F) (W : Dev nD → (main_arg1 : Ref sig .tc).ty.Contents (Elt F)) (c : Dev nD) : ℕ → Vec F S512x4096 .f32
  | 0 => k0_pay2 (slotv xb c c) (wrow (W c) c)
  | n + 1 => k0_pay3 (slotv xb c ((show Fin 16 from c) - Fin.ofNat 16 (n + 1))) (wrow (W c) ((show Fin 16 from c) - Fin.ofNat 16 (n + 1))) (acc xb W c n)

/-- The invariant between the first and the last point. -/
def mid (xb : XB F) (c : Dev nD) (n : ℕ) : sProp 𝕄 :=
  iprop(∃ κ, Invs xb κ ∗ levAts L lv ∗ tabPts c ∗ fam (recvSt xb c n) ∗ fam (sendSt xb c n (n + 3)) ∗ localSt xb c ∗ atPos ER (barCell c) 1 ∅ 0)

def inv (xb : XB F) (c : Dev nD) (n : ℕ) : sProp 𝕄 :=
  if n = 0 then before xb c else if n = 16 then iprop(tabPts c ∗ done xb c) else mid xb c n

variable (xb : XB F) (W : Dev nD → (main_arg1 : Ref sig .tc).ty.Contents (Elt F)) (z : Dev nD → (main_v7 : Ref sig .tc).ty.Contents (Elt F))

def dats (_ : Fin 1) (c : Dev nD) : Dat τ (Elt F) Unit ℕ UU ℕ (cfgc (F := F) c) c where
  A w := match w with
    | ⟨0, _⟩ => W c
    | ⟨1, _⟩ => z c
  after w t := match w with
    | ⟨0, _⟩ => wrow (W c) ((show Fin 16 from c) - t.cast N_0)
    | ⟨1, _⟩ => fin (t.cast N_0) (acc xb W c t.val)
  Φ t := inv xb c t.val
  q _ := fullShare
  owed t := owedAt c t.val

theorem row_at (ix : Fin 2 → ℕ) (k : Fin 16) (h : ix = ![k.val, 0]) (x : S512x4096.Idx) (a : Fin 2) :
    ix a * S512x4096.size a + 1 * (x a).val = (![512 * k.val, 0] : Fin 2 → ℕ) a + 1 * (x a).val := by
  subst h
  match a with
  | 0 => show k.val * 512 + _ = 512 * k.val + _; rw [Nat.mul_comm]
  | 1 => show 0 * 4096 + _ = 0 + _; rw [Nat.zero_mul]

theorem never_idle : ∀ j : Fin 16, idle0 1 (pt j) = false := by decide +kernel

theorem fetched0 (c : Dev nD) (t : Fin grid0.N) (d) :
    (dats xb W z 0 c).before 0 t d = wrow (W c) ((show Fin 16 from c) - t.cast N_0) := by
  unfold Dat.before
  rw [if_pos (fetch0 c t)]
  show ((cfgc (F := F) c).win 0 |>.blk t).view.read (Elt F) (W c) = _
  funext x
  show W c _ = W c _
  congr 1
  funext a
  apply Fin.ext
  exact row_at _ _ (index0 (F := F) c t) x a

/-- What a buffer no transfer touched since the point before still holds. -/
theorem before_kept {cfg : Pipeline.Cfg sig Λ₀} {c : Dev nD} (dat : Dat τ (Elt F) Unit ℕ UU ℕ cfg c) (w : Fin cfg.W) (t t' : Fin cfg.N)
    (ht : t.val ≠ 0) (e : t'.val = t.val - 1) (hf : (cfg.win w).fetch t = false) (hl : (cfg.win w).flush t' = false)
    (hi : cfg.idle w (cfg.grid.coords t') = false) (d) : dat.before w t d = dat.kept w t' d := by
  obtain rfl : t' = ⟨t.val - 1, Nat.lt_of_le_of_lt (Nat.sub_le _ _) t.isLt⟩ := Fin.ext e
  rw [dat.before_of_pos w t ht hf, if_neg (by rw [hl]; exact Bool.false_ne_true)]
  unfold Dat.left
  rw [hi]

theorem before1 (c : Dev nD) (t : Fin grid0.N) (h : t.val ≠ 0) (d) :
    (dats xb W z 0 c).before 1 t d = acc xb W c (t.val - 1) := by
  have hlt : t.val < 16 := lt_of_lt_of_eq t.isLt N_0
  refine (before_kept (dats xb W z 0 c) 1 t ⟨t.val - 1, lt_of_le_of_lt (Nat.sub_le _ _) t.isLt⟩ h rfl rfl ?_ ?_ d).trans ?_
  · rw [flush1]
    exact decide_eq_false (by show ¬ (t.val - 1 = 15); omega)
  · show idle0 1 (grid0.coords _) = false
    rw [coords_eq]
    exact never_idle _
  show fin _ (acc xb W c (t.val - 1)) = _
  unfold fin
  rw [if_neg]
  intro e
  have := congrArg (fun x : Fin 16 => x.val) e
  have : t.val - 1 = 15 := this
  omega

end Cert.KernelIdeal.Exch

end
-- ==== Proof.Region.lean ====
/- The body obligation: at every grid point the body takes the invariant before the point to the one after it. -/
module

public import proofs.«01_k».proof.Proof.Data

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (xb : XB F) (W : Dev nD → (main_arg1 : Ref sig .tc).ty.Contents (Elt F)) (z : Dev nD → (main_v7 : Ref sig .tc).ty.Contents (Elt F)) (c : Dev nD)

abbrev st0 (t : Fin grid0.N) : Memref sig .tc .vmem S512x4096 .f32 := spec0_0.stage ((cfgc (F := F) c).slots t 0)
abbrev st1 (t : Fin grid0.N) : Memref sig .tc .vmem S512x4096 .f32 := spec0_1.stage ((cfgc (F := F) c).slots t 1)

theorem run_body (t : Fin grid0.N) :
    defs₀ (F := F) .tc (cfgc (F := F) c).body ((cfgc (F := F) c).bodyArgs t ((cfgc (F := F) c).slots t))
      = body (t.cast N_0) (st0 (F := F) c t) (st1 (F := F) c t) (stage_whole0 0 _) (stage_whole0 1 _) := by
  show cc0_body (grid0.coords t) _ _ _ _ _ _ _ _ _ _ _ _ _ = _
  rw [coords_eq]

theorem owe_of (t : Fin (grid0.N + 1)) : (dats xb W z 0 c).owesAt () t ⊢ owe c (owedAt c t.val) := by
  unfold Dat.owesAt Pipeline.owesWithin owe
  iintro ⟨%B, -, H⟩
  iexists B
  iexact H

theorem of_owe (t : Fin (grid0.N + 1)) : owe c (owedAt c t.val) ⊢ (dats xb W z 0 c).owesAt () t := by
  unfold Dat.owesAt Pipeline.owesWithin owe
  iintro ⟨%B, H⟩
  iexists B
  isplitr
  · ipureintro; exact fun _ _ => Or.inl trivial
  iexact H

theorem owedAt_ne (n : ℕ) (h : n ≠ 0) : owedAt c n = Ow c (n + 3) := if_neg h

/-- The next invariant: at the last point the kernel's semaphores are read back at zero. -/
theorem next_inv (κ : GSem nD τ sig → ℕ) (n : ℕ) (h0 : n ≠ 0) (hlt : n < 16) (P : sProp 𝕄) :
    iprop(Invs xb κ ∗ levAts L lv ∗ tabPts c ∗ fam (recvSt xb c (n + 1)) ∗ fam (sendSt xb c (n + 1) (n + 4)) ∗ localSt xb c
        ∗ atPos ER (barCell c) 1 ∅ 0 ∗ (inv xb c (n + 1) -∗ P))
      ⊢ iprop(|={Set.univ}=> P) := by
  by_cases h15 : n = 15
  · subst h15
    rw [show inv xb c (15 + 1) = iprop(tabPts c ∗ done xb c) from by unfold inv; rw [if_neg (by decide), if_pos rfl]]
    iintro ⟨#HI, #Hl, Ht, Hr, Hs, HL, HaB, HP⟩
    ihave H := (finish xb κ c 19) $$ [Hr Hs HL HaB]
    · isplitr; · iexact HI
      isplitl [Hr]; · iexact Hr
      isplitl [Hs]; · iexact Hs
      isplitl [HL]; · iexact HL
      iexact HaB
    imod H
    imodintro
    iapply HP
    isplitl [Ht]; · iexact Ht
    iexact H
  · rw [show inv xb c (n + 1) = mid xb c (n + 1) from by unfold inv; rw [if_neg (by omega), if_neg (by omega)]]
    unfold mid
    iintro ⟨#HI, #Hl, Ht, Hr, Hs, HL, HaB, HP⟩
    imodintro
    iapply HP
    iexists κ
    isplitr; · iexact HI
    isplitr; · iexact Hl
    isplitl [Ht]; · iexact Ht
    isplitl [Hr]; · iexact Hr
    isplitl [Hs]; · iexact Hs
    isplitl [HL]; · iexact HL
    iexact HaB

/-- One point of the body from invariant to invariant. -/
theorem point (t : Fin grid0.N) (X : S512x4096.Idx → Elt F .f32) (hX : t.val ≠ 0 → X = acc xb W c (t.val - 1)) (Q : PUnit → sProp 𝕄) :
    iprop(inv xb c t.val ∗ owe c (owedAt c t.val)
        ∗ owns (c : Thread nD τ) (st0 (F := F) c t) fullShare (wrow (W c) ((show Fin 16 from c) - t.cast N_0)) ∗ owns (c : Thread nD τ) (st1 (F := F) c t) fullShare X
        ∗ ((inv xb c (t.val + 1) ∗ owe c (owedAt c (t.val + 1))
            ∗ owns (c : Thread nD τ) (st0 (F := F) c t) fullShare (wrow (W c) ((show Fin 16 from c) - t.cast N_0))
            ∗ owns (c : Thread nD τ) (st1 (F := F) c t) fullShare (fin (t.cast N_0) (acc xb W c t.val))) -∗ Q ⟨⟩))
      ⊢ wpk c (body (t.cast N_0) (st0 (F := F) c t) (st1 (F := F) c t) (stage_whole0 0 _) (stage_whole0 1 _)) Q := by
  have hlt : t.val < 16 := lt_of_lt_of_eq t.isLt N_0
  by_cases h0 : t.val = 0
  · have ht : t.cast N_0 = 0 := Fin.ext h0
    rw [ht, h0]
    have hi0 : inv xb c 0 = before xb c := if_pos rfl
    have hi1 : inv xb c (0 + 1) = mid xb c 1 := by unfold inv; rw [if_neg (by decide), if_neg (by decide)]
    have hw : (show Fin 16 from c) - 0 = c := sub_zero' c
    rw [hi0, hi1, hw]
    unfold before mid locRes
    iintro ⟨⟨%κ, #HI, Hsig, ⟨#Hl, Hloc⟩, Ht, HaL, Hr⟩, Ho, H0, H1, HQ⟩
    iapply (body_first xb κ c _ _ _ _ (wrow (W c) c) X) $$ [-]
    isplitr; · iexact HI
    isplitl [Hsig Ho]
    · isplitl [Hsig]; · iexact Hsig
      iexact Ho
    isplitl [Hloc]
    · unfold locRes
      isplitr; · iexact Hl
      iexact Hloc
    isplitl [Ht]; · iexact Ht
    isplitl [HaL]; · iexact HaL
    isplitl [H0]; · iexact H0
    isplitl [H1]; · iexact H1
    iintro ⟨Ht, Hs, Ho, HL, HaB, H0, H1⟩
    iapply HQ
    isplitl [Ht Hs HL HaB Hr]
    · iexists κ
      isplitr; · iexact HI
      isplitr; · iexact Hl
      isplitl [Ht]; · iexact Ht
      isplitl [Hr]; · iexact Hr
      isplitl [Hs]; · iexact Hs
      isplitl [HL]; · iexact HL
      iexact HaB
    isplitl [Ho]; · iexact Ho
    isplitl [H0]; · iexact H0
    iexact H1
  · have hj : t.cast N_0 ≠ 0 := fun e => h0 (congrArg (fun x : Fin 16 => x.val) e)
    obtain ⟨n, hn⟩ : ∃ n, t.val = n + 1 := ⟨t.val - 1, by omega⟩
    have hX' : X = acc xb W c n := by rw [hX h0, hn]; rfl
    have hacc : acc xb W c t.val = k0_pay3 (slotv xb c ((show Fin 16 from c) - t.cast N_0)) (wrow (W c) ((show Fin 16 from c) - t.cast N_0)) X := by
      have e : (Fin.ofNat 16 (n + 1)) = t.cast N_0 := Fin.ext (by show (n + 1) % 16 = t.val; omega)
      rw [hX', hn]
      show k0_pay3 (slotv xb c ((show Fin 16 from c) - Fin.ofNat 16 (n + 1))) (wrow (W c) ((show Fin 16 from c) - Fin.ofNat 16 (n + 1))) (acc xb W c n) = _
      rw [e]
    have hi : inv xb c t.val = mid xb c t.val := by unfold inv; rw [if_neg h0, if_neg (by omega)]
    rw [hi, hacc, owedAt_ne c _ h0, owedAt_ne c (t.val + 1) (by omega)]
    unfold mid
    iintro ⟨⟨%κ, #HI, #Hl, Ht, Hr, Hs, HL, HaB⟩, Ho, H0, H1, HQ⟩
    iapply (wp_fupd frame (wpE defs₀ 𝒱₀ (c : Thread nD τ) none) Set.univ _ Q) $$ [-]
    iapply (body_pos xb κ c (t.cast N_0) hj _ _ _ _ (wrow (W c) ((show Fin 16 from c) - t.cast N_0)) X) $$ [-]
    isplitr; · iexact HI
    isplitr; · iexact Hl
    isplitl [Ht]; · iexact Ht
    isplitl [Hr]; · iexact Hr
    isplitl [Hs]; · iexact Hs
    isplitl [Ho]; · iexact Ho
    isplitl [H0]; · iexact H0
    isplitl [H1]; · iexact H1
    iintro ⟨Ht, Hr, Hs, Ho, H0, H1⟩
    iapply (next_inv xb c κ t.val h0 hlt (Q ⟨⟩)) $$ [-]
    isplitr; · iexact HI
    isplitr; · iexact Hl
    isplitl [Ht]; · iexact Ht
    isplitl [Hr]; · iexact Hr
    isplitl [Hs]; · iexact Hs
    isplitl [HL]; · iexact HL
    isplitl [HaB]; · iexact HaB
    iintro Hi
    iapply HQ
    isplitl [Hi]; · iexact Hi
    isplitl [Ho]; · iexact Ho
    isplitl [H0]; · iexact H0
    iexact H1

theorem inv_of (t : Fin grid0.N) : (dats xb W z 0 c).Φ t.castSucc ⊢ inv xb c t.val := Entails.of_eq rfl
theorem of_inv (t : Fin grid0.N) : inv xb c (t.val + 1) ⊢ (dats xb W z 0 c).Φ t.succ := Entails.of_eq rfl

theorem idle1 (t : Fin grid0.N) : (cfgc (F := F) c).idle 1 ((cfgc (F := F) c).grid.coords t) = false := by
  show idle0 1 (grid0.coords _) = false
  rw [coords_eq]
  exact never_idle _

/-- What a point leaves in a window's buffer, the window not idle there. -/
theorem leave {cfg : Pipeline.Cfg sig Λ₀} {c : Dev nD} (dat : Dat τ (Elt F) Unit ℕ UU ℕ cfg c) (w : Fin cfg.W) (t : Fin cfg.N)
    (hi : cfg.idle w (cfg.grid.coords t) = false) (fgt : Fin cfg.W → Bool) (hf : fgt w = false) :
    (owns (c : Thread nD τ) ((cfg.win w).stage (cfg.slots t w)) fullShare (dat.after w t) : sProp 𝕄)
      ⊢ (fun w : Fin cfg.W => match fgt w with
        | true => iprop(∃ X, owns (c : Thread nD τ) ((cfg.win w).stage (cfg.slots t w)) fullShare X)
        | false =>
          match cfg.idle w (cfg.grid.coords t) with
          | true =>
            match (cfg.win w).flush t with
            | false => iprop(∃ d, owns (c : Thread nD τ) ((cfg.win w).stage (cfg.slots t w)) fullShare (dat.before w t d))
            | true => owns (c : Thread nD τ) ((cfg.win w).stage (cfg.slots t w)) fullShare (dat.after w t)
          | false => owns (c : Thread nD τ) ((cfg.win w).stage (cfg.slots t w)) fullShare (dat.after w t)) w := by
  dsimp only
  rw [hi, hf]

theorem body_obligation : Pipeline.BodyObligation (dats xb W z 0 c) defs₀ 𝒱₀ () Set.univ := by
  intro t
  refine BIBase.Entails.trans (Q := wpk c _ fun _ => iprop((dats xb W z 0 c).Φ t.succ ∗ (dats xb W z 0 c).owesAt () t.succ
      ∗ owns (c : Thread nD τ) (st0 (F := F) c t) fullShare (wrow (W c) ((show Fin 16 from c) - t.cast N_0))
      ∗ owns (c : Thread nD τ) (st1 (F := F) c t) fullShare (fin (t.cast N_0) (acc xb W c t.val)))) ?_
    (wp_mono frame (wpE defs₀ 𝒱₀ (c : Thread nD τ) none) Set.univ fun _ => sep_mono .rfl (sep_mono .rfl ?_))
  swap
  · rw [bigSep_W0]
    exact sep_mono .rfl (leave (dats xb W z 0 c) 1 t (idle1 c t) (fun _ => false) rfl)
  rw [bigSep_W0, run_body]
  iintro ⟨Hi, Ho, ⟨%d0, H0⟩, ⟨%d1, H1⟩⟩
  ihave Ho := (owe_of xb W z c t.castSucc) $$ Ho
  iapply (point xb W c t _ (fun h => before1 xb W z c t h d1) _) $$ [-]
  isplitl [Hi]; · iapply (inv_of xb W z c t); iexact Hi
  isplitl [Ho]; · iexact Ho
  isplitl [H0]
  · rw [← fetched0 xb W z c t d0]; iexact H0
  isplitl [H1]; · iexact H1
  iintro ⟨Hi, Ho, H0, H1⟩
  isplitl [Hi]; · iapply (of_inv xb W z c t); iexact Hi
  isplitl [Ho]; · iapply (of_owe xb W z c t.succ); iexact Ho
  isplitl [H0]; · iexact H0
  iexact H1

end Cert.KernelIdeal.Exch

end
-- ==== Proof.Segment.lean ====
/- The kernel region: what it is entered with, what it leaves, and its record. -/
module

public import proofs.«01_k».proof.Proof.Region
public import proofs.«01_k».proof.Proof.Gen.KernelIdeal.Regions
public import Idealize.ShloMosaic.Lib.StableHlo.RunRead

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The exchanged operand, the weights and the result's buffer as the region finds them. -/
abbrev xbm : XB F := fun c => V1 m c main_v1
abbrev wm (c : Dev nD) : (main_arg1 : Ref sig .tc).ty.Contents (Elt F) := V1 m c main_arg1
abbrev zm (c : Dev nD) : (main_v7 : Ref sig .tc).ty.Contents (Elt F) := V1 m c main_v7

abbrev pdats (p : Fin 1) (c : Dev nD) : Dat τ (Elt F) Unit ℕ UU ℕ (Pipeline.pinD (pcfgs (F := F)) adm c p) c :=
  dats (xbm m) (wm m) (zm m) p c

theorem word_self : ∀ c : Fin 16, Scalar.remui (Scalar.divui (Dev.word (nD := 16) c) 1#32) 16#32 = Dev.word (nD := 16) c := by decide

theorem V1_table (c : Dev nD) : V1 m c main_v6 = (tab c : (main_v6 : Ref sig .tc).ty.Contents (Elt F)) := by
  show StableHlo.after (hostOps0 c) (V0 m c) main_v6 = _
  after_reads_simp
  funext i
  exact word_self c

theorem V1_arg0 (c : Dev nD) : V1 m c main_arg0 = m ((c : Thread nD τ).loc main_arg0) := (V1_of m c main_arg0 (by decide)).trans rfl
theorem V1_arg1 (c : Dev nD) : V1 m c main_arg1 = m ((c : Thread nD τ).loc main_arg1) := (V1_of m c main_arg1 (by decide)).trans rfl
theorem V1_operand (c : Dev nD) : V1 m c main_v1 = truncf (F := F) .bf16 (m ((c : Thread nD τ).loc main_arg0)) bitsLt_bf16_f32 := by
  show StableHlo.after (hostOps0 c) (V0 m c) main_v1 = _
  after_reads_simp

/-! ## The unscoped buffers, sorted -/

/-- The buffers the region is about. -/
def five : Finset (Ref sig .tc) := {main_arg0, main_arg1, main_v1, main_v7, main_v6}

theorem held_five (c : Dev nD) (V : Valuation τ sig (Elt F)) :
    (StableHlo.held (c : Thread nD τ) (Pipeline.ucRefs τ sig) V : sProp 𝕄)
      ⊢ iprop((((c : Thread nD τ).loc main_arg0) ↦{fullShare} V main_arg0) ∗ (((c : Thread nD τ).loc main_arg1) ↦{fullShare} V main_arg1)
        ∗ (((c : Thread nD τ).loc main_v1) ↦{fullShare} V main_v1) ∗ (((c : Thread nD τ).loc main_v7) ↦{fullShare} V main_v7)
        ∗ (((c : Thread nD τ).loc main_v6) ↦{fullShare} V main_v6)) := by
  rw [← Pipeline.unscopedBufs_held]
  unfold unscopedBufs
  refine BIBase.Entails.trans (bigSep_subset (t := five) (by decide)) (Entails.of_eq ?_)
  unfold five
  rw [bigSep_insert (by decide), bigSep_insert (by decide), bigSep_insert (by decide), bigSep_insert (by decide), bigSep_singleton]
  rfl

theorem arrays_two (c : Dev nD) (G : (w : Fin 2) → Buf (Elt F) ((spec0 w).arr.view.loc (c : Thread nD τ))) :
    ((pdats m 0 c).arrays G : sProp 𝕄)
      = iprop((((c : Thread nD τ).loc main_arg1) ↦{fullShare} G 0) ∗ (((c : Thread nD τ).loc main_v7) ↦{fullShare} G 1)) := by
  rw [Pipeline.PerCore.arrays_eq (Pipeline.pinD (pcfgs (F := F)) adm) (pdats m) 0 c arr_whole0 ((pdats m 0 c).share_full fun _ => rfl)]
  exact bigSep_W0 _

theorem pref_tab (c : Dev nD) : (Pipeline.prefHeld pre0 c (fun _ => fullShare) (tabs c) : sProp 𝕄) = tabPts c := by
  unfold Pipeline.prefHeld
  exact bigSep_singleton (i := (0 : Fin 1))

/-! ## The record -/

/-- What the region's device holds besides its buffers. -/
def held0 (c : Dev nD) : sProp 𝕄 := iprop((∃ κ, Recs (xbm m) κ) ∗ dealt c ∗ owe c (O₀ c))

/-- The result as the region leaves it. -/
def out (c : Dev nD) : (main_v7 : Ref sig .tc).ty.Contents (Elt F) := (pdats m 0 c).arrAt 1 16

/-- What the program leaves on device `c`. -/
def left (c : Dev nD) : sProp 𝕄 :=
  iprop((((c : Thread nD τ).loc main_arg0) ↦{fullShare} V1 m c main_arg0) ∗ (((c : Thread nD τ).loc main_arg1) ↦{fullShare} V1 m c main_arg1)
    ∗ (((c : Thread nD τ).loc main_v7) ↦{fullShare} out m c) ∗ semVal (barCell c) 0)

theorem ownSems_eq (c : Dev nD) : (Pipeline.ownSems0 osem c : sProp 𝕄) = bigSep Finset.univ (fun k => semVal (ownCell c k) 0) := rfl

theorem tab_of (c : Dev nD) : ((((c : Thread nD τ).loc main_v6) ↦{fullShare} V1 m c main_v6) : sProp 𝕄) = tabPts c := by rw [V1_table]

theorem owed_end (c : Dev nD) : owedAt c (Fin.last grid0.N).val = 0 := by
  show owedAt c 16 = 0
  unfold owedAt; rw [if_neg (by decide)]; exact Ow_end c _ (by decide)

theorem ownSems : Pipeline.OwnSemFacts spec0 osem := by decide

theorem stg_low : ∀ (w : Fin 2) (s : Fin (spec0 w).nbuf), (((spec0 w).sem s).val : ℕ) < 3 := by decide

theorem waits (c : Dev nD) :
    (levAts L lv : sProp 𝕄) ⊢ Pipeline.PerCore.cellsWaits (Pipeline.pinD (pcfgs (F := F)) adm) (pdats m) () (0 : Fin 1) c :=
  Pipeline.PerCore.cellsWaits_intro (Pipeline.pinD (pcfgs (F := F)) adm) (pdats m) () (0 : Fin 1) c fun w s t =>
    MayOwe.of_cut 0
      (fun q hq => by rw [Finset.mem_singleton.mp hq, L_tc]; exact Finset.mem_singleton_self _)
      (fun g i hg => (owedAt_pos hg).1)
      (fun q hq => by
        rw [Finset.mem_singleton.mp hq]
        have h := stg_low w s
        exact (if_neg fun h' => by omega : dmaLv c ((spec0 w).sem s).val = 0).le)
      (fun g i hg => (owedAt_pos hg).2)

theorem entry (c : Dev nD) :
    iprop((StableHlo.held (c : Thread nD τ) (Pipeline.ucRefs τ sig) (V1 m c) ∗ held0 m c) ∗ Pipeline.ownSems0 osem c ∗ levAts L lv)
      ⊢ |={Set.univ}=> iprop((pdats m 0 c).arrays ((pdats m 0 c).arrAt · 0) ∗ Pipeline.prefHeld pre0 c (fun _ => fullShare) (tabs c)
        ∗ (pdats m 0 c).owesAt () 0 ∗ entered (xbm m) c ∗ (((c : Thread nD τ).loc main_arg0) ↦{fullShare} V1 m c main_arg0)) := by
  rw [arrays_two, pref_tab, ownSems_eq]
  iintro ⟨⟨Hh, Hs⟩, Ho, #Hl⟩
  ihave Hh := (held_five c (V1 m c)) $$ Hh
  icases Hh with ⟨H0, H1, Hx, Hz, Ht⟩
  unfold held0
  icases Hs with ⟨⟨%κ, #HR⟩, Hd, Hw⟩
  imod (enter (xbm m) κ c) $$ [Hd Ho Hx] with HE
  · isplitr; · iexact HR
    isplitr; · iexact Hl
    isplitl [Hd]; · iexact Hd
    isplitl [Ho]; · iexact Ho
    iexact Hx
  imodintro
  isplitl [H1 Hz]
  · isplitl [H1]; · iexact H1
    iexact Hz
  isplitl [Ht]
  · iapply (Entails.of_eq (tab_of m c)); iexact Ht
  isplitl [Hw]; · iapply (of_owe (xbm m) (wm m) (zm m) c 0); iexact Hw
  isplitl [HE]; · iexact HE
  iexact H0

theorem into (c : Dev nD) :
    iprop(entered (xbm m) c ∗ Pipeline.prefHeld pre0 c (fun _ => fullShare) (tabs c) ∗ Pipeline.scopedRest spec0 c)
      ⊢ (pdats m 0 c).Φ 0 := by
  rw [pref_tab, scopedRest0_eq]
  exact entered_before (xbm m) c

theorem back (c : Dev nD) :
    (pdats m 0 c).Φ (Fin.last _)
      ⊢ iprop((tabPts c ∗ xPts (xbm m) c ∗ semVal (barCell c) 0) ∗ Pipeline.ownSems0 osem c ∗ Pipeline.scopedRest spec0 c) := by
  rw [scopedRest0_eq, ownSems_eq]
  show inv (xbm m) c 16 ⊢ _
  unfold inv done
  rw [if_neg (by decide), if_pos rfl]
  iintro ⟨Ht, Hx, Hf, Ho, Hb⟩
  isplitl [Ht Hx Hb]
  · isplitl [Ht]; · iexact Ht
    isplitl [Hx]; · iexact Hx
    iexact Hb
  isplitl [Ho]; · iexact Ho
  iexact Hf

theorem exit (c : Dev nD) :
    iprop((pdats m 0 c).arrays ((pdats m 0 c).arrAt · grid0.N) ∗ (pdats m 0 c).owesAt () (Fin.last _)
        ∗ (tabPts c ∗ xPts (xbm m) c ∗ semVal (barCell c) 0) ∗ (((c : Thread nD τ).loc main_arg0) ↦{fullShare} V1 m c main_arg0))
      ⊢ |={Set.univ}=> iprop(left m c ∗ ∃ W, owes (c : Thread nD τ) (0 : CellTallies nD τ sig Unit) W) := by
  rw [arrays_two]
  unfold left
  iintro ⟨⟨H1, Hz⟩, Hw, ⟨-, -, Hb⟩, H0⟩
  imodintro
  isplitr [Hw]
  · isplitl [H0]; · iexact H0
    isplitl [H1]; · iexact H1
    isplitl [Hz]; · iexact Hz
    iexact Hb
  · ihave Hw := (owe_of (xbm m) (wm m) (zm m) c (Fin.last _)) $$ Hw
    rw [owed_end]
    unfold owe
    iexact Hw

def region0 : Pipeline.PerCore.RegionSeg (pcfgs (F := F)) adm (pdats m) () defs₀ 𝒱₀ L lv 0 where
  win := winFacts0.to₀
  block_pos := block_pos0
  stage_whole := stage_whole0
  K := Fin 33
  osem := osem
  ho := ownSems
  hbody c := (body_obligation (xbm m) (wm m) (zm m) c).loose
  hwaits := waits m
  pre c := iprop(StableHlo.held (c : Thread nD τ) (Pipeline.ucRefs τ sig) (V1 m c) ∗ held0 m c)
  post c := iprop(left m c ∗ ∃ W, owes (c : Thread nD τ) (0 : CellTallies nD τ sig Unit) W)
  X c := entered (xbm m) c
  Y c := iprop(tabPts c ∗ xPts (xbm m) c ∗ semVal (barCell c) 0)
  Z c := ((c : Thread nD τ).loc main_arg0) ↦{fullShare} V1 m c main_arg0
  hentry c := entry m c
  hin c := into m c
  hout c := back m c
  hexit c := exit m c

end Cert.KernelIdeal.Exch

end
-- ==== Proof.Deal.lean ====
/- What the launch deals each device: the tokens of the duties it pays, the credit of what the others owe it, its
   position at its barrier cell. -/
module

public import proofs.«01_k».proof.Proof.Data

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (xb : XB F) (κ : GSem nD τ sig → ℕ) (c : Dev nD)

/-! ## The tokens -/

def ownTokEmb : Dev nD × Fin 33 ↪ GSem nD τ sig × ℕ × Fin 16 :=
  ⟨fun x => (ownCell x.1 x.2, 0, 0), fun x y h => ownEmb.injective (congrArg Prod.fst h)⟩
def barTokEmb : Dev nD × Fin 16 ↪ GSem nD τ sig × ℕ × Fin 16 :=
  ⟨fun x => (barCell x.1, 0, x.2), fun x y h =>
    Prod.ext (barEmb.injective (congrArg Prod.fst h)) (congrArg (fun z : GSem nD τ sig × ℕ × Fin 16 => z.2.2) h)⟩
def toks : Finset (GSem nD τ sig × ℕ × Fin 16) := Finset.univ.map ownTokEmb ∪ Finset.univ.map barTokEmb

theorem toks_disjoint : Disjoint (Finset.univ.map ownTokEmb) (Finset.univ.map barTokEmb) := by
  rw [Finset.disjoint_left]
  rintro g h₁ h₂
  obtain ⟨ck, -, rfl⟩ := Finset.mem_map.mp h₁
  obtain ⟨cp, -, h⟩ := Finset.mem_map.mp h₂
  have e : SemLoc.reg barS = osem ck.2 := congrArg (fun z : GSem nD τ sig × ℕ × Fin 16 => z.1.2) h
  cases e

/-- The tokens each device is dealt: those of the duties it pays, on its own cells and on the others'. -/
def paid : sProp 𝕄 :=
  iprop((fam (fun o => dutyTok ER (sendCell c o) 0 0) ∗ fam (fun o => dutyTok ER (recvCell (c + o) c) 0 0) ∗ dutyTok ER (localCell c) 0 0)
    ∗ fam (fun o => dutyTok ER (barCell (c + o)) 0 c))

theorem deal_toks : bigSep toks (fun x => (dutyTok ER x.1 x.2.1 x.2.2 : sProp 𝕄)) = bigSep Finset.univ fun c : Dev nD => paid c := by
  have hown : bigSep (Finset.univ.map ownTokEmb) (fun x => (dutyTok ER x.1 x.2.1 x.2.2 : sProp 𝕄))
      = bigSep Finset.univ fun c : Dev nD => iprop(fam (fun o => dutyTok ER (sendCell c o) 0 0)
          ∗ fam (fun o => dutyTok ER (recvCell (c + o) c) 0 0) ∗ dutyTok ER (localCell c) 0 0) := by
    rw [bigSep_map, bigSep_univ_prod]
    refine (bigSep_congr fun d _ => own_split (fun k => (dutyTok ER (ownCell d k) 0 0 : sProp 𝕄))).trans ?_
    rw [bigSep_sep', bigSep_sep', bigSep_sep', bigSep_sep']
    refine congrArg (fun X => iprop(_ ∗ X ∗ _)) ?_
    exact (bigSep_univ_comm fun (d : Dev nD) (k : Fin 16) => (dutyTok ER (recvCell d k) 0 0 : sProp 𝕄)).trans
      (bigSep_congr fun k _ => fam_add k fun d => (dutyTok ER (recvCell d k) 0 0 : sProp 𝕄))
  have hbar : bigSep (Finset.univ.map barTokEmb) (fun x => (dutyTok ER x.1 x.2.1 x.2.2 : sProp 𝕄))
      = bigSep Finset.univ fun c : Dev nD => fam fun o => dutyTok ER (barCell (c + o)) 0 c := by
    rw [bigSep_map, bigSep_univ_prod]
    exact (bigSep_univ_comm fun (d : Dev nD) (k : Fin 16) => (dutyTok ER (barCell d) 0 k : sProp 𝕄)).trans
      (bigSep_congr fun k _ => fam_add k fun d => (dutyTok ER (barCell d) 0 k : sProp 𝕄))
  unfold toks paid
  rw [bigSep_sep', ← hown, ← hbar]
  exact bigSep_union toks_disjoint

/-! ## The credit -/

theorem sum_at (S : Finset (Fin 16)) (T : Fin 16 → CellTallies nD τ sig Unit) (g : GSem nD τ sig) (u : Unit) :
    (∑ o ∈ S, T o) g u = ∑ o ∈ S, T o g u := by
  induction S using Finset.induction_on with
  | empty => simp
  | insert a s ha ih => rw [Finset.sum_insert ha, Finset.sum_insert ha, Pi.add_apply, Finsupp.add_apply, ih]

theorem add_iff : ∀ d o c : Fin 16, d + o = c ↔ d = c - o := by decide +kernel
theorem add_iff' : ∀ d o k : Fin 16, (d + o = k) ↔ (o = k - d) := by decide +kernel

theorem owed_bar (d : Dev nD) : O₀ d (barCell c) () = ∑ o ∈ Finset.univ.filter (fun o : Fin 16 => o ≠ 0 ∧ 1 ≤ o.val), if d = c - o then 1 else 0 := by
  unfold O₀ Ow BarOw
  rw [Pi.add_apply, Finsupp.add_apply, sum_at, sum_at, Finset.sum_eq_zero, Nat.zero_add]
  · refine Finset.sum_congr rfl fun o _ => ?_
    rw [tallyAt_apply]
    refine if_congr ⟨fun h => ?_, fun h => ?_⟩ rfl rfl
    · exact (add_iff d o c).mp (barEmb.injective h.1).symm
    · exact ⟨by rw [(add_iff d o c).mpr h], rfl⟩
  · intro o _
    rw [tallyAt_ne_cell]
    · rfl
    · intro h
      have e : SemLoc.reg barS = osem (rIx d) := congrArg Prod.snd h
      cases e

theorem credit_bar : ∑ d : Dev nD, O₀ d (barCell c) () = 15 := by
  rw [Finset.sum_congr rfl fun d _ => owed_bar c d, Finset.sum_comm,
    Finset.sum_congr rfl fun o _ => Finset.sum_ite_eq' Finset.univ (c - o) fun _ => 1]
  simp only [Finset.mem_univ, if_true]
  decide

theorem far : ∀ c k : Fin 16, k ≠ c → c - k ∈ Finset.univ.filter (fun o : Fin 16 => o ≠ 0 ∧ 1 ≤ o.val) := by decide +kernel

theorem recv_inj {d d' : Dev nD} {k k' : Fin 16} (h : recvCell d k = recvCell d' k') : d = d' ∧ k = k' := by
  have e : ((d, rIx k) : Dev nD × Fin 33) = (d', rIx k') := ownEmb.injective h
  have e2 : 16 + k.val = 16 + k'.val := congrArg (fun x : Dev nD × Fin 33 => x.2.val) e
  exact ⟨congrArg Prod.fst e, Fin.ext (by omega)⟩

theorem owed_recv (k : Fin 16) (hk : k ≠ c) (d : Dev nD) : O₀ d (recvCell c k) () = if d = k then NB else 0 := by
  unfold O₀ Ow BarOw
  rw [Pi.add_apply, Finsupp.add_apply, sum_at, sum_at, Finset.sum_eq_zero (s := Finset.univ.filter (fun o : Fin 16 => o ≠ 0 ∧ 1 ≤ o.val))
    (f := fun o => (tallyAt (barCell (d + o)) () 1 : CellTallies nD τ sig Unit) (recvCell c k) ()), Nat.add_zero]
  · by_cases h : d = k
    · subst h
      rw [if_pos rfl, Finset.sum_congr rfl (g := fun o => if o = c - d then NB else 0), Finset.sum_ite_eq', if_pos (far c d hk)]
      intro o _
      rw [tallyAt_apply]
      refine if_congr ⟨fun h => ?_, fun h => ?_⟩ rfl rfl
      · exact (add_iff' d o c).mp (recv_inj h.1).1.symm
      · exact ⟨by rw [(add_iff' d o c).mpr h], rfl⟩
    · rw [if_neg h]
      refine Finset.sum_eq_zero fun o _ => ?_
      rw [tallyAt_apply, if_neg fun e => h (recv_inj e.1).2.symm]
  · intro o _
    rw [tallyAt_ne_cell]
    · rfl
    · intro h
      have e : osem (rIx k) = SemLoc.reg barS := congrArg Prod.snd h
      cases e

theorem launch_bar : tallyOn (barCell c) (launchCredit (Pipeline.owing O₀) 0 (barCell c)) = (tallyAt (barCell c) () 15 : CellTallies nD τ sig Unit) := by
  unfold tallyAt
  refine congrArg _ (Finsupp.ext fun u => ?_)
  cases u
  rw [Pipeline.launchCredit_owing, Finsupp.single_eq_same, credit_bar]

theorem launch_recv (k : Fin 16) (hk : k ≠ c) :
    tallyOn (recvCell c k) (launchCredit (Pipeline.owing O₀) 0 (recvCell c k)) = (tallyAt (recvCell c k) () NB : CellTallies nD τ sig Unit) := by
  unfold tallyAt
  refine congrArg _ (Finsupp.ext fun u => ?_)
  cases u
  rw [Pipeline.launchCredit_owing, Finsupp.single_eq_same, Finset.sum_congr rfl fun d _ => owed_recv c k hk d, Finset.sum_ite_eq' Finset.univ k fun _ => NB,
    if_pos (Finset.mem_univ _)]

def recvLocEmb : Fin 16 ↪ SemLoc sig := ⟨fun o => osem (rIx (c - o)), fun o o' h => by
  have e := congrArg (fun x : Fin 33 => x.val) (osem_inj h)
  have e2 : 16 + (c - o).val = 16 + (c - o').val := e
  exact (subEquiv c).injective (Fin.ext (by show (c - o).val = (c - o').val; omega))⟩

theorem sub_off : ∀ c o : Fin 16, o ≠ 0 → c - o ≠ c := by decide +kernel

theorem creds : (Pipeline.launchCred O₀ c : sProp 𝕄) ⊢ iprop(cred (tallyAt (barCell c) () 15) ∗ famNZ (fun o => cred (tallyAt (recvCell c (c - o)) () NB))) := by
  unfold Pipeline.launchCred
  rw [bigSep_univ_at _ (SemLoc.reg barS), launch_bar]
  refine sep_mono_right ?_
  have hsub : (Finset.univ.erase (0 : Fin 16)).map (recvLocEmb c) ⊆ Finset.univ.erase (SemLoc.reg barS) := by
    intro x hx
    obtain ⟨o, -, rfl⟩ := Finset.mem_map.mp hx
    refine Finset.mem_erase.mpr ⟨fun e => ?_, Finset.mem_univ _⟩
    have e : osem (rIx (c - o)) = SemLoc.reg barS := e
    cases e
  refine BIBase.Entails.trans (bigSep_subset hsub) (Entails.of_eq ((bigSep_map (recvLocEmb c)).trans (bigSep_congr fun o ho => ?_)))
  exact congrArg cred (launch_recv c (c - o) (sub_off c o (Finset.ne_of_mem_erase ho)))

end Cert.KernelIdeal.Exch

end
-- ==== Proof.Run.lean ====
/- The launch: what each device is dealt, and the run of the whole program. -/
module

public import proofs.«01_k».proof.Proof.Segment
public import proofs.«01_k».proof.Proof.Deal
public import Idealize.ShloMosaic.Lib.Quiescent

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem unscoped_sem : ∀ sm : SemLoc sig, sm.isScoped .tc = false → sm = .reg barS := by decide

theorem unscoped_one (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem staging_inj : Function.Injective (Pipeline.PerCore.cellOf (nD := nD) (τ := τ) (Pipeline.pinD (pcfgs (F := F)) adm)) :=
  Pipeline.PerCore.cellOf_injective (Pipeline.pinD (pcfgs (F := F)) adm) (fun _ p => by
      obtain rfl := Subsingleton.elim p 0
      exact Pipeline.specSemsDistinct_of_nodup _ (semsDistinct 0))
    (fun _ p p' h => absurd (Subsingleton.elim p p') h)

/-- The element the launch allocates: the pipeline's beside the exchange's. -/
def u₀ : UU :=
  (initOf (Pipeline.PerCore.cells (Pipeline.pinD (pcfgs (F := F)) adm) staging_inj)
      (Pipeline.PerCore.launchToks (Pipeline.pinD (pcfgs (F := F)) adm) staging_inj),
    launchOf barCells ownCells toks)

/-- The exchange's ghost state, whole, until it is dealt. -/
def pot : sProp 𝕄 := BI.own (ER (launchOf barCells ownCells toks))

/-- The pot stands with device `0`. -/
def parked (c : Dev nD) : sProp 𝕄 := if c = (0 : Fin 16) then pot else iprop(emp)

theorem parked_all : bigSep Finset.univ (parked (F := F)) = pot := by
  rw [bigSep_univ_at _ (0 : Fin 16), bigSep_congr (s := Finset.univ.erase (0 : Fin 16)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

theorem drop_zero (P : Fin 16 → sProp 𝕄) : fam P ⊢ famNZ P := bigSep_subset (Finset.erase_subset _ _)

/-- What the pot gives device `c`. -/
def share (c : Dev nD) : sProp 𝕄 :=
  iprop(bigSep Finset.univ (fun k => openTok ER (ownCell c k)) ∗ paid c ∗ atPos ER (barCell c) 0 ∅ 0)

/-- What device `c` is launched with besides. -/
def bundle (c : Dev nD) : sProp 𝕄 :=
  iprop(StableHlo.held (c : Thread nD τ) (Pipeline.ucRefs τ sig) (V0 m c) ∗ Pipeline.launchCred O₀ c ∗ owes (c : Thread nD τ) (O₀ c) ∅)

abbrev first (c : Dev nD) : sProp 𝕄 := iprop(StableHlo.held (c : Thread nD τ) (Pipeline.ucRefs τ sig) (V0 m c) ∗ held0 m c)

theorem first_of (κ : GSem nD τ sig → ℕ) (c : Dev nD) : iprop(Recs (xbm m) κ ∗ (share c ∗ bundle m c)) ⊢ first m c := by
  unfold share bundle first held0 dealt paid owe
  iintro ⟨#HR, ⟨Hop, ⟨⟨HtS, HtR, HtL⟩, HtB⟩, Hat⟩, Hh, Hc, Hw⟩
  ihave Hc := (creds c) $$ Hc
  icases Hc with ⟨HcB, HcR⟩
  ihave HtS := (drop_zero _) $$ HtS
  ihave HtR := (drop_zero _) $$ HtR
  ihave HtB := (drop_zero _) $$ HtB
  isplitl [Hh]; · iexact Hh
  isplitr; · iexists κ; iexact HR
  isplitr [Hw]
  · isplitl [Hop]; · iexact Hop
    isplitl [HtB]; · iexact HtB
    isplitl [HtR]; · iexact HtR
    isplitl [HtS]; · iexact HtS
    isplitl [HtL]; · iexact HtL
    isplitl [HcB]; · iexact HcB
    isplitl [HcR]; · iexact HcR
    iexact Hat
  · iexists ∅; iexact Hw

theorem pot_open :
    iprop(bigSep Finset.univ (fun c : Dev nD => (semVal (barCell c) 0 : sProp 𝕄)) ∗ pot)
      ⊢ |={Set.univ}=> iprop(∃ κ, Recs (xbm m) κ ∗ bigSep Finset.univ (share (F := F))) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (bigSep_map barEmb)
  have hat : bigSep barCells (fun g => (atPos ER g 0 ∅ 0 : sProp 𝕄)) ⊢ bigSep Finset.univ (fun c : Dev nD => (atPos ER (barCell c) 0 ∅ 0 : sProp 𝕄)) :=
    Entails.of_eq (bigSep_map barEmb)
  have hop : bigSep ownCells (fun g => (openTok ER g : sProp 𝕄))
      ⊢ bigSep Finset.univ (fun c : Dev nD => bigSep Finset.univ fun k : Fin 33 => openTok ER (ownCell c k)) :=
    Entails.of_eq ((bigSep_map ownEmb).trans (bigSep_univ_prod _))
  have htk : bigSep toks (fun x => (dutyTok ER x.1 x.2.1 x.2.2 : sProp 𝕄)) ⊢ bigSep Finset.univ fun c : Dev nD => paid c := Entails.of_eq deal_toks
  have hsh : iprop(bigSep Finset.univ (fun c : Dev nD => bigSep Finset.univ fun k : Fin 33 => openTok ER (ownCell c k))
      ∗ (bigSep Finset.univ fun c : Dev nD => paid c) ∗ bigSep Finset.univ fun c : Dev nD => atPos ER (barCell c) 0 ∅ 0)
      ⊢ bigSep Finset.univ (share (F := F)) := by
    unfold share
    rw [bigSep_sep', bigSep_sep']
  unfold pot Recs Invs
  iintro ⟨Hv, Hu⟩
  imod (Rounds.fund_launch ER (exRd (xbm m)) disjoint_cells (fun g _ h => h) toks) $$ [Hv Hu] with ⟨%κ, -, #Hinv, #Hr, Hat, Hopen, Htok⟩
  · isplitl [Hv]
    · iapply hv $$ Hv
    · iexact Hu
  imodintro
  iexists κ
  isplitr
  · isplitr; · iexact Hinv
    iapply hr; iexact Hr
  iapply hsh
  isplitl [Hopen]; · iapply hop $$ Hopen
  isplitl [Htok]; · iapply htk $$ Htok
  iapply hat $$ Hat

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (first m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) (Pipeline.ucRefs τ sig) (V0 m c)
      from Pipeline.unscopedBufs_held c (V0 m c), unscoped_one]
    unfold bundle
    iintro ⟨Hh, Hus, HO, Hcr, -, HG⟩
    isplitl [Hh Hcr HO]
    · isplitl [Hh]; · iexact Hh
      isplitl [Hcr]; · iexact Hcr
      iexact HO
    isplitl [Hus]; · iexact Hus
    iexact HG
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (iprop(bigSep Finset.univ (bundle m) ∗ bigSep Finset.univ (fun c : Dev nD => semVal (barCell c) 0) ∗ pot) : sProp 𝕄) := by
    rw [← parked_all, ← bigSep_sep', ← bigSep_sep']
    exact bigSep_mono fun c _ => hcore c
  have hpair (κ : GSem nD τ sig → ℕ) : iprop(Recs (xbm m) κ ∗ bigSep Finset.univ (share (F := F)) ∗ bigSep Finset.univ (bundle m))
      ⊢ bigSep Finset.univ (first m) := by
    rw [← bigSep_sep']
    exact bigSep_with_persistent fun c _ => first_of m κ c
  iintro ⟨H, -⟩
  ihave H := hall $$ H
  icases H with ⟨HB, Hv, HP⟩
  imod (pot_open m) $$ [Hv HP] with ⟨%κ, #HR, HS⟩
  · isplitl [Hv]; · iexact Hv
    iexact HP
  imodintro
  iapply (hpair κ)
  isplitr; · iexact HR
  isplitl [HS]; · iexact HS
  iexact HB

/-! ## The run -/

abbrev pieces (c : Dev nD) : List (Pipeline.PerCore.Seg (pcfgs (F := F)) adm (pdats m) () defs₀ 𝒱₀ L lv) :=
  [.host (seg0 m 𝒱₀ L lv (fun _ => held0 m) c), .region (region0 m)]

set_option backward.isDefEq.respectTransparency.types false in
/-- From any memory whose counters are zero, every weakly fair run ends with the arguments as they were, the result at what
    the region leaves, and every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v7) = out m c) ∧ r.2.sem = fun _ => 0) := by
  refine Pipeline.PerCore.θ_run_regions_kit_sems (pcfgs (F := F)) adm (pdats m) () staging_inj EP defs₀ 𝒱₀ L lv m ρ main (pieces m)
    (fun c Q => by
      rewrite [main_chain c, Pipeline.PerCore.Seg.run_eq_chain,
        show (pieces m c).map Pipeline.PerCore.Seg.prog = [
          StableHlo.seq (hostOps0 c),
          Prog.lift (.customCall (Pipeline.entry 0) ()) ] from rfl]
      dsimp (config := { failIfUnchanged := false }) only
      exact .rfl)
    (fun c => by simp only [pieces, Pipeline.PerCore.Seg.pipes_host, Pipeline.PerCore.Seg.pipes_region, Pipeline.PerCore.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; unfold pot; iexact HX)
    (T₀ := first m) (Tₙ := left m)
    (hch := fun c => ⟨.rfl, .rfl, .rfl⟩)
    (hinit := init m ρ)
    (QY := fun c s => (s.mem ((c : Thread nD τ).loc main_arg0) = V1 m c main_arg0 ∧ s.mem ((c : Thread nD τ).loc main_arg1) = V1 m c main_arg1
      ∧ s.mem ((c : Thread nD τ).loc main_v7) = out m c) ∧ s.sem (barCell c) = 0)
    (hfin := fun c s' => by
      unfold left
      iintro ⟨⟨H0, H1, Hz, Hb0⟩, HSI⟩
      icombine HSI H0 gives %h0
      icombine HSI H1 gives %h1
      icombine HSI Hz gives %hz
      icombine HSI Hb0 gives %hb
      imodintro
      isplitr
      · ipureintro
        exact ⟨⟨Buf.eq_of_forall_mem_univ h0, Buf.eq_of_forall_mem_univ h1, Buf.eq_of_forall_mem_univ hz⟩, by simpa using hb⟩
      iexact HSI)
    (hQ := fun s h hs => ⟨fun c => by
        obtain ⟨⟨h0, h1, hz⟩, -⟩ := h c
        exact ⟨h0.trans (V1_arg0 m c), h1.trans (V1_arg1 m c), hz⟩,
      sem_eq_zero hs fun c sm hsm => by
        obtain rfl := unscoped_sem sm hsm
        exact (h c).2⟩)

end Cert.KernelIdeal.Exch

end
-- ==== Proof.Frames.lean ====
/- The two readings of the program run to the end with their arguments unchanged and every counter at zero. -/
module

public import proofs.«01_k».proof.Defs
public import proofs.«01_k».proof.Proof.Gen.Kernel
public import proofs.«01_k».proof.Proof.Run
public import Idealize.ShloMosaic.Adequacy
public import Idealize.ShloMosaic.Init
public import Idealize.ShloMosaic.Lib.StableHlo.RunHlo

@[expose] public section

set_option maxRecDepth 16384

noncomputable section

namespace Cert.Proof

open Idealize.ShloMosaic Idealize.SL.Sem

theorem frame_ideal : @Cert.quiescent_KernelIdeal Cert.KernelIdeal.Gen.facts := fun m g _ =>
  θ_run_mono (KernelIdeal.Exch.run_main (F := Ideal) m g) fun _ h => ⟨fun c => ⟨(h.1 c).1, (h.1 c).2.1⟩, h.2⟩

/-! The two readings print one program, so their bodies and mains are one term; the tables of bodies are compared label by label. -/

section

variable {F : FTy → Type} [FloatOps F]

theorem bodies_eq : @Kernel.defs₀ F _ Kernel.Gen.facts = @KernelIdeal.defs₀ F _ KernelIdeal.Gen.facts :=
  congrArg Defs.onTc (funext fun l => funext fun a => match l, a with
    | 0, (_, _) => rfl
    | ⟨_ + 1, h⟩, _ => absurd h (Nat.not_lt.2 (Nat.le_add_left _ _)))

theorem defs_eq : @Kernel.defs F _ Kernel.Gen.facts = @KernelIdeal.defs F _ KernelIdeal.Gen.facts :=
  congrArg (Pipeline.defs (KernelIdeal.pcfgs (F := F))) bodies_eq

theorem main_eq : @Kernel.main F _ Kernel.Gen.facts = @KernelIdeal.main F _ KernelIdeal.Gen.facts := rfl

end

theorem frame_bits : @Cert.quiescent_Kernel Cert.Kernel.Gen.facts := fun m g _ => by
  have h := KernelIdeal.Exch.run_main (F := Bits) m g
  rw [← main_eq, ← defs_eq] at h
  exact θ_run_mono h fun _ h => ⟨fun c => ⟨(h.1 c).1, (h.1 c).2.1⟩, h.2⟩

end Cert.Proof

end
-- ==== Proof.Value.lean ====
/- What the region leaves in the result, and that result over the reals. -/
module

public import proofs.«01_k».proof.Proof.Segment
public import Idealize.ShloMosaic.Lib.Pointwise
public import Idealize.ShloMosaic.Lib.Pipeline.Value
public import Idealize.ShloMosaic.PureOps.Ideal

@[expose] public section

set_option maxRecDepth 16384
set_option pp.deepTerms false
set_option pp.deepTerms.threshold 3

noncomputable section

namespace Cert.KernelIdeal.Exch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem whole_at (x : S512x4096.Idx) (a : Fin 2) : (![0, 0] : Fin 2 → ℕ) a * S512x4096.size a + 1 * (x a).val = (x a).val := by
  match a with
  | 0 => show 0 * 512 + 1 * _ = _; omega
  | 1 => show 0 * 4096 + 1 * _ = _; omega

/-- The result's block at any point is the whole array. -/
theorem block_emb (c : Dev nD) (t : Fin grid0.N) (x : S512x4096.Idx) :
    (((cfgc (F := F) c).win 1).blk t).view.emb x = (x : S512x4096.Idx) := by
  funext a
  exact Fin.ext (whole_at x a)

/-- The result's array ends holding the activated accumulator. -/
theorem out_eq (c : Dev nD) : out m c = k0_pay1 (acc (xbm m) (wm m) c 15) := by
  have h := (pdats m 0 c).arrAt_eq_of_cover 1 (k0_pay1 (acc (xbm m) (wm m) c 15) : (main_v7 : Ref sig .tc).ty.Contents (Elt F)) (fun t ht => ?_) (fun i => ?_)
  · exact h
  · have e : t.val = 15 := of_decide_eq_true ((flush1 (F := F) c t).symm.trans ht)
    funext x
    refine Eq.trans ?_ (congrArg (k0_pay1 (acc (xbm m) (wm m) c 15)) (block_emb (F := F) c t x)).symm
    have e' : t.cast N_0 = (15 : Fin 16) := Fin.ext e
    show fin (t.cast N_0) (acc (xbm m) (wm m) c t.val) x = _
    rw [e', e]
    rfl
  · have ht : ((cfgc (F := F) c).win 1).flush ((15 : Fin 16).cast N_0.symm) = true := (flush1 (F := F) c ((15 : Fin 16).cast N_0.symm)).trans rfl
    refine ⟨(15 : Fin 16).cast N_0.symm, ht, ?_⟩
    have hm := (((cfgc (F := F) c).win 1).blk ((15 : Fin 16).cast N_0.symm)).view.emb_mem_set (i : S512x4096.Idx)
    rw [block_emb (F := F) c ((15 : Fin 16).cast N_0.symm) i] at hm
    exact hm

/-! ## The accumulator over the reals -/

theorem pay2_apply (v12 : Vec Ideal S512x512 .bf16) (v13 : Vec Ideal S512x4096 .f32) (j : S512x4096.Idx) :
    k0_pay2 (F := Ideal) v12 v13 j = ∑ k : Fin 512, v12 (ix2 (j 0) k) * v13 (ix2 k (j 1)) := by
  unfold k0_pay2
  simp only [pointwise]
  exact zero_add _

theorem pay3_apply (v12 : Vec Ideal S512x512 .bf16) (v13 v34 : Vec Ideal S512x4096 .f32) (j : S512x4096.Idx) :
    k0_pay3 (F := Ideal) v12 v13 v34 j = v34 j + k0_pay2 (F := Ideal) v12 v13 j := by
  unfold k0_pay3
  simp only [pointwise]

/-- The activation the kernel applies. -/
def silu (y : EReal) : EReal := y * Ideal.div 1 (1 + Ideal.exp (-y))

theorem pay1_apply (v : Vec Ideal S512x4096 .f32) (j : S512x4096.Idx) : k0_pay1 (F := Ideal) v j = silu (v j) := by
  unfold k0_pay1
  simp only [pointwise]
  show v j * Ideal.div 1 (1 + Ideal.exp (0 - v j)) = _
  rw [zero_sub]
  rfl

theorem exp_nonneg (y : EReal) : 0 ≤ Ideal.exp y := by
  induction y with
  | bot => exact le_refl _
  | top => exact le_top
  | coe r => exact EReal.coe_nonneg.mpr (Real.exp_pos r).le

theorem silu_eq (y : EReal) : silu y = Ideal.div y (1 + Ideal.exp (-y)) := by
  have h : (1 + Ideal.exp (-y)) ≠ 0 := by
    have : (1 : EReal) ≤ 1 + Ideal.exp (-y) := le_add_of_nonneg_right (exp_nonneg _)
    exact (lt_of_lt_of_le zero_lt_one this).ne'
  unfold silu Ideal.div
  rw [if_neg h, if_neg h, one_mul]

/-- The product's entry at `j`, the contraction whole. -/
def prod (X : (⟨2, ![8192, 8192]⟩ : Shape).Idx → EReal) (Y : (⟨2, ![8192, 4096]⟩ : Shape).Idx → EReal) (j : (⟨2, ![8192, 4096]⟩ : Shape).Idx) : EReal :=
  ∑ p : Fin 8192, X (ix2 (j 0) p) * Y (ix2 p (j 1))

/-- The `k`-th of the sixteen parts of the contraction. -/
def part (xb : XB Ideal) (W : Dev nD → (main_arg1 : Ref sig .tc).ty.Contents (Elt Ideal)) (c : Dev nD) (j : S512x4096.Idx) (k : Fin 16) : EReal :=
  ∑ q : Fin 512, slotv xb c k (ix2 (j 0) q) * wrow (W c) k (ix2 q (j 1))

theorem acc_sum (xb : XB Ideal) (W : Dev nD → (main_arg1 : Ref sig .tc).ty.Contents (Elt Ideal)) (c : Dev nD) (j : S512x4096.Idx) (n : ℕ) :
    acc xb W c n j = ∑ t ∈ Finset.range (n + 1), part xb W c j ((show Fin 16 from c) - Fin.ofNat 16 t) := by
  induction n with
  | zero =>
    rw [Finset.sum_range_one, show (show Fin 16 from c) - Fin.ofNat 16 0 = c from sub_zero' c]
    exact pay2_apply _ _ j
  | succ n ih =>
    rw [Finset.sum_range_succ, ← ih]
    refine (pay3_apply _ _ _ j).trans (congrArg _ ?_)
    exact pay2_apply _ _ j

theorem acc_whole (xb : XB Ideal) (W : Dev nD → (main_arg1 : Ref sig .tc).ty.Contents (Elt Ideal)) (c : Dev nD) (j : S512x4096.Idx) :
    acc xb W c 15 j = ∑ k : Fin 16, part xb W c j k := by
  rw [acc_sum, Finset.sum_range]
  refine Eq.trans ?_ (Equiv.sum_comp (subEquiv c) (part xb W c j))
  exact Finset.sum_congr rfl fun t _ => congrArg _ (congrArg _ (Fin.ext (Nat.mod_eq_of_lt t.isLt)))

/-- Sixteen sums of 512 make one of 8192. -/
theorem sum_parts (f : Fin 8192 → EReal) :
    ∑ k : Fin 16, ∑ q : Fin 512, f ⟨512 * k.val + q.val, by have := k.isLt; have := q.isLt; omega⟩ = ∑ p, f p := by
  rw [← Fintype.sum_prod_type']
  refine Eq.trans ?_ (Equiv.sum_comp (finProdFinEquiv (m := 16) (n := 512)) f)
  refine Finset.sum_congr rfl fun x _ => congrArg f (Fin.ext ?_)
  show 512 * x.1.val + x.2.val = x.2.val + 512 * x.1.val
  omega

variable (mI : (ℓ : Loc nD τ sig) → Buf (Elt Ideal) ℓ)

theorem part_eq (X : (⟨2, ![8192, 8192]⟩ : Shape).Idx → EReal) (Y : (⟨2, ![8192, 4096]⟩ : Shape).Idx → EReal)
    (hX : ∀ c : Dev nD, mI ((c : Thread nD τ).loc main_arg0) = Layout.block ⟨2, ![8192, 512]⟩ ⟨2, ![8192, 8192]⟩ 1 16 c X)
    (hY : ∀ c : Dev nD, mI ((c : Thread nD τ).loc main_arg1) = Y) (c : Dev nD) (j : S512x4096.Idx) (i : (⟨2, ![8192, 4096]⟩ : Shape).Idx)
    (h0 : (i 0).val = c.val * 512 + (j 0).val) (h1 : (i 1).val = (j 1).val) (k : Fin 16) :
    part (xbm mI) (wm mI) c j k
      = ∑ q : Fin 512, X (ix2 (i 0) ⟨512 * k.val + q.val, by have := k.isLt; have := q.isLt; omega⟩)
          * Y (ix2 ⟨512 * k.val + q.val, by have := k.isLt; have := q.isLt; omega⟩ (i 1)) := by
  refine Finset.sum_congr rfl fun q _ => ?_
  refine congrArg₂ (fun a b : EReal => a * b) ?_ ?_
  · show V1 mI k main_v1 ((rowsR c).emb (ix2 (j 0) q)) = _
    rw [V1_operand, hX k]
    show X _ = X _
    refine congrArg X (funext fun a => Fin.ext ?_)
    match a with
    | 0 => show 512 * c.val + 1 * (j 0).val = (i 0).val; omega
    | 1 => show k.val * 512 + (0 + 1 * q.val) = 512 * k.val + q.val; omega
  · show V1 mI c main_arg1 _ = _
    rw [V1_arg1, hY c]
    refine congrArg Y (funext fun a => Fin.ext ?_)
    match a with
    | 0 => show 512 * k.val + 1 * q.val = 512 * k.val + q.val; omega
    | 1 => show 0 + 1 * (j 1).val = (i 1).val; omega

/-- The result on device `c` is block `c` of the activated product. -/
theorem out_block (X : (⟨2, ![8192, 8192]⟩ : Shape).Idx → EReal) (Y : (⟨2, ![8192, 4096]⟩ : Shape).Idx → EReal)
    (hX : ∀ c : Dev nD, mI ((c : Thread nD τ).loc main_arg0) = Layout.block ⟨2, ![8192, 512]⟩ ⟨2, ![8192, 8192]⟩ 1 16 c X)
    (hY : ∀ c : Dev nD, mI ((c : Thread nD τ).loc main_arg1) = Y) (c : Dev nD) :
    out mI c = Layout.block ⟨2, ![512, 4096]⟩ ⟨2, ![8192, 4096]⟩ 0 16 c (fun i => silu (prod X Y i)) := by
  rw [out_eq]
  funext j
  refine (pay1_apply _ j).trans (congrArg silu ?_)
  rw [acc_whole]
  have h : Layout.Tiles ⟨2, ![512, 4096]⟩ ⟨2, ![8192, 4096]⟩ 0 16 := by decide
  refine Eq.trans (Finset.sum_congr rfl fun k _ => part_eq mI X Y hX hY c j (h.idx c j) rfl rfl k) ?_
  exact sum_parts fun p => X (ix2 (h.idx c j 0) p) * Y (ix2 p (h.idx c j 1))

end Cert.KernelIdeal.Exch

end
-- ==== Proof.References.lean ====
/- The runs of the two references: straight lines of array operations. -/
module

public import proofs.«01_k».proof.Defs
public import proofs.«01_k».proof.Proof.Gen.ReferenceIdeal
public import proofs.«01_k».proof.Proof.Gen.SiluReferenceIdeal
public import proofs.«01_k».proof.Proof.Gen.On_clip_inactive
public import proofs.«01_k».proof.Proof.Frames
public import proofs.«01_k».proof.Proof.Value
public import Idealize.ShloMosaic.Lib.Claim

@[expose] public section

set_option maxRecDepth 16384

noncomputable section

namespace Cert.Proof

open Idealize.ShloMosaic Idealize.SL.Sem

open Idealize.ShloMosaic.Pointwise Cert.KernelIdeal.Exch

theorem frame_reference : @Cert.quiescent_ReferenceIdeal Cert.ReferenceIdeal.Gen.facts := by
  intro m g _
  hlo_run
  · exact fun _ => ⟨trivial, trivial⟩
  · exact sem_eq_zero_of_no_sems (sig := ReferenceIdeal.sig) (by decide) _

theorem frame_silu : @Cert.quiescent_SiluReferenceIdeal Cert.SiluReferenceIdeal.Gen.facts := by
  intro m g _
  hlo_run
  · exact fun _ => ⟨trivial, trivial⟩
  · exact sem_eq_zero_of_no_sems (sig := SiluReferenceIdeal.sig) (by decide) _

/-! ## The references' results -/

section

variable (X : FVec Ideal ⟨2, ![8192, 8192]⟩ .f32) (Y : FVec Ideal ⟨2, ![8192, 4096]⟩ .f32)

/-- The host's contraction is the sum of the products. -/
theorem dot_apply (i : (⟨2, ![8192, 4096]⟩ : Shape).Idx) :
    Host.dotGeneral SiluReferenceIdeal.dot_S8192x8192_S8192x4096_S8192x4096_1_0_0_1_n_n none X Y i = prod X Y i := by
  simp only [pointwise]
  exact zero_add _

/-- The activation as the references write it, of a product `y` and of the `z` under the exponential. -/
def quotient (y z : FVec Ideal ⟨2, ![8192, 4096]⟩ .f32) : FVec Ideal ⟨2, ![8192, 4096]⟩ .f32 :=
  Host.divf y (addf (broadcastInDim SiluReferenceIdeal.S8192x4096 ![] SiluReferenceIdeal.Gen.bcast_S_S8192x4096 (constant SiluReferenceIdeal.S_ FTy.f32 1065353216#32))
    (Host.exp (Host.negf z)))

theorem quotient_apply (y z : FVec Ideal ⟨2, ![8192, 4096]⟩ .f32) (i : (⟨2, ![8192, 4096]⟩ : Shape).Idx) (h : z i = y i) :
    quotient y z i = silu (y i) := by
  rw [silu_eq]
  unfold quotient
  simp only [pointwise]
  rw [h]

/-- The clipped product. -/
def clipped (y : FVec Ideal ⟨2, ![8192, 4096]⟩ .f32) : FVec Ideal ⟨2, ![8192, 4096]⟩ .f32 :=
  minimumf (broadcastInDim SiluReferenceIdeal.S8192x4096 ![] SiluReferenceIdeal.Gen.bcast_S_S8192x4096 (constant SiluReferenceIdeal.S_ FTy.f32 1114636288#32))
    (maximumf (broadcastInDim SiluReferenceIdeal.S8192x4096 ![] SiluReferenceIdeal.Gen.bcast_S_S8192x4096 (constant SiluReferenceIdeal.S_ FTy.f32 3262119936#32)) y)

/-- Where the mask holds the clip changes nothing. -/
theorem clipped_apply (i : (⟨2, ![8192, 4096]⟩ : Shape).Idx) (h : On_clip_inactive.fn (F := Ideal) X Y i = 1#1) :
    clipped (Host.dotGeneral SiluReferenceIdeal.dot_S8192x8192_S8192x4096_S8192x4096_1_0_0_1_n_n none X Y) i
      = Host.dotGeneral SiluReferenceIdeal.dot_S8192x8192_S8192x4096_S8192x4096_1_0_0_1_n_n none X Y i := by
  generalize hy : Host.dotGeneral SiluReferenceIdeal.dot_S8192x8192_S8192x4096_S8192x4096_1_0_0_1_n_n none X Y = y
  have h' : (andi (cmpf .oge y (broadcastInDim SiluReferenceIdeal.S8192x4096 ![] SiluReferenceIdeal.Gen.bcast_S_S8192x4096 (constant SiluReferenceIdeal.S_ FTy.f32 3262119936#32)))
      (cmpf .ole y (broadcastInDim SiluReferenceIdeal.S8192x4096 ![] SiluReferenceIdeal.Gen.bcast_S_S8192x4096 (constant SiluReferenceIdeal.S_ FTy.f32 1114636288#32)))) i = 1#1 := by
    subst hy; exact h
  unfold clipped
  simp only [pointwise] at h' ⊢
  generalize Ideal.ofBits FTy.f32 3262119936#32 = lo at h' ⊢
  generalize Ideal.ofBits FTy.f32 1114636288#32 = hi at h' ⊢
  by_cases h₁ : lo ≤ y i
  · by_cases h₂ : y i ≤ hi
    · exact (congrArg (min hi) (max_eq_right h₁)).trans (min_eq_right h₂)
    · rw [decide_eq_true h₁, decide_eq_false h₂] at h'
      exact absurd h' (by decide)
  · rw [decide_eq_false h₁] at h'
    revert h'
    cases decide (y i ≤ hi) <;> exact fun h' => absurd h' (by decide)

end

/-! ## The kernel against the references -/

theorem algebraic_silu : @Cert.algebraic_KernelIdeal_SiluReferenceIdeal Cert.KernelIdeal.Gen.facts Cert.SiluReferenceIdeal.Gen.facts := by
  intro m g m' g' _ hag
  refine ⟨fun i => silu (prod (m' ((0 : Dev SiluReferenceIdeal.nD).tc.loc SiluReferenceIdeal.main_arg0)) (m' ((0 : Dev SiluReferenceIdeal.nD).tc.loc SiluReferenceIdeal.main_arg1)) i), ?_, ?_⟩
  · refine θ_run_mono (KernelIdeal.Exch.run_main (F := Ideal) m g) fun _ h c => ⟨?_, (h.1 c).1, (h.1 c).2.1⟩
    exact (h.1 c).2.2.trans (out_block m _ _ (fun c => (hag c).1) (fun c => (hag c).2) c)
  · hlo_run
    funext i
    refine (quotient_apply _ _ i rfl).trans (congrArg silu (dot_apply _ _ i))

theorem algebraic_reference : @Cert.algebraic_KernelIdeal_ReferenceIdeal_on_clip_inactive Cert.KernelIdeal.Gen.facts Cert.ReferenceIdeal.Gen.facts Cert.On_clip_inactive.Gen.facts := by
  intro m g m' g' _ hag
  refine ⟨fun i => silu (prod (m' ((0 : Dev ReferenceIdeal.nD).tc.loc ReferenceIdeal.main_arg0)) (m' ((0 : Dev ReferenceIdeal.nD).tc.loc ReferenceIdeal.main_arg1)) i), ?_, ?_⟩
  · refine θ_run_mono (KernelIdeal.Exch.run_main (F := Ideal) m g) fun _ h c => ⟨fun i _ => ?_, (h.1 c).1, (h.1 c).2.1⟩
    exact congrFun ((h.1 c).2.2.trans (out_block m _ _ (fun c => (hag c).1) (fun c => (hag c).2) c)) i
  · hlo_run
    intro i hi
    refine (quotient_apply _ _ i (clipped_apply _ _ i hi)).trans (congrArg silu (dot_apply _ _ i))

end Cert.Proof

end
-- ==== Proof.lean ====
/- The certificate: the four programs run to the end with their arguments unchanged and every counter at zero, and over
   the reals the exchange leaves on each device its rows of the activated product. -/
module

public import proofs.«01_k».proof.Defs
public import proofs.«01_k».proof.Proof.Frames
public import proofs.«01_k».proof.Proof.References

@[expose] public section

noncomputable section

namespace Cert.Proof

theorem claim : Cert.Claim :=
  ⟨Cert.Kernel.Gen.facts, Cert.KernelIdeal.Gen.facts, Cert.ReferenceIdeal.Gen.facts, Cert.SiluReferenceIdeal.Gen.facts,
    Cert.On_clip_inactive.Gen.facts, frame_bits, frame_ideal, frame_reference, frame_silu, trivial, algebraic_silu,
    algebraic_reference⟩

end Cert.Proof

end
